-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_permutation [hPre_permutation : Cert.Pre_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutation [hPre_permutation : Cert.Pre_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_permutation [hKernelIdeal : Cert.KernelIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_permutation [hReferenceIdeal : Cert.ReferenceIdeal.Facts] [hPre_permutation : Cert.Pre_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_permutation [hKernelIdeal : Cert.KernelIdeal.Facts] [hReferenceIdeal : Cert.ReferenceIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_permutation : Cert.Pre_permutation.Facts),
    quiescent_Kernel (hKernel := hKernel)
    ∧ quiescent_KernelIdeal (hKernelIdeal := hKernelIdeal)
    ∧ quiescent_KernelIdeal_pre_permutation (hKernelIdeal := hKernelIdeal) (hPre_permutation := hPre_permutation)
    ∧ quiescent_ReferenceIdeal (hReferenceIdeal := hReferenceIdeal)
    ∧ quiescent_ReferenceIdeal_pre_permutation (hReferenceIdeal := hReferenceIdeal) (hPre_permutation := hPre_permutation)
    ∧ preserves_Kernel_KernelIdeal
    ∧ algebraic_KernelIdeal_ReferenceIdeal_pre_permutation (hKernelIdeal := hKernelIdeal) (hReferenceIdeal := hReferenceIdeal) (hPre_permutation := hPre_permutation)
-- ==== Pre_permutation.lean ====
abbrev S32768x2048 : Shape := ⟨2, ![32768, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩

class Facts : Prop where
  bcast_S_S2048 : S_.BroadcastsInDim S2048 (![] : Fin 0 → Fin S2048.rank)
  reducesTo_S2048_S_d0 : S2048.ReducesTo [0] S_
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  reducesTo_S2048x2048_S_d0_1 : S2048x2048.ReducesTo [0, 1] S_

variable [Facts]

def fn {F : FTy → Type} [FloatOps F] (main_arg0 : FVec F S32768x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_v6 : IVec S2048 32 := iotaInDim S2048 32 0
  let main_v7 : IVec S2048x1 32 := broadcastInDim S2048x1 ![0] bcast_S2048_S2048x1_0 main_arg1
  let main_v8 : IVec S1x2048 32 := broadcastInDim S1x2048 ![1] bcast_S2048_S1x2048_1 main_arg1
  let main_v9 : IVec S2048x2048 32 := broadcastInDim S2048x2048 ![0, 1] bcast_S2048x1_S2048x2048_0_1 main_v7
  let main_v10 : IVec S2048x2048 32 := broadcastInDim S2048x2048 ![0, 1] bcast_S1x2048_S2048x2048_0_1 main_v8
  let main_v11 : IVec S2048x2048 1 := cmpi .ne main_v9 main_v10
  let main_v12 : IVec S2048x1 32 := broadcastInDim S2048x1 ![0] bcast_S2048_S2048x1_0 main_v6
  let main_v13 : IVec S1x2048 32 := broadcastInDim S1x2048 ![1] bcast_S2048_S1x2048_1 main_v6
  let main_v14 : IVec S2048x2048 32 := broadcastInDim S2048x2048 ![0, 1] bcast_S2048x1_S2048x2048_0_1 main_v12
  let main_v15 : IVec S2048x2048 32 := broadcastInDim S2048x2048 ![0, 1] bcast_S1x2048_S2048x2048_0_1 main_v13
  let main_v16 : IVec S2048x2048 1 := cmpi .eq main_v14 main_v15
  let main_v17 : IVec S2048x2048 1 := ori main_v11 main_v16
  let main_c_2 : IVec S_ 1 := constantI S_ 1 1#1
  let main_v18 : IVec S_ 1 := (fun x v => Host.reduce IntOp.andi x v reducesTo_S2048x2048_S_d0_1 h_S_) main_v17 main_c_2
  let main_v19 : IVec S_ 1 := andi main_v5 main_v18
  main_v19
-- ==== Kernel.lean ====
abbrev S32768x2048 : Shape := ⟨2, ![32768, 2048]⟩
abbrev S2048 : Shape := ⟨1, ![2048]⟩
abbrev S1x2048 : Shape := ⟨2, ![1, 2048]⟩
abbrev S2048x2048 : Shape := ⟨2, ![2048, 2048]⟩
abbrev S1024x2048 : Shape := ⟨2, ![1024, 2048]⟩
abbrev S1024x256 : Shape := ⟨2, ![1024, 256]⟩
abbrev S256x256 : Shape := ⟨2, ![256, 256]⟩
abbrev S2048x512 : Shape := ⟨2, ![2048, 512]⟩
abbrev S1x512 : Shape := ⟨2, ![1, 512]⟩
abbrev S2048x256 : Shape := ⟨2, ![2048, 256]⟩
abbrev S1x256 : Shape := ⟨2, ![1, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S512x256 : Shape := ⟨2, ![512, 256]⟩

abbrev nBuf : Space → Nat
  | .hbm => 7
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S2048, .i32⟩
  | .hbm, ⟨2, _⟩ => ⟨S1x2048, .f32⟩
  | .hbm, ⟨3, _⟩ => ⟨S2048x2048, .f32⟩
  | .hbm, ⟨4, _⟩ => ⟨S1x2048, .i32⟩
  | .hbm, ⟨5, _⟩ => ⟨S2048x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .f32⟩
  | .local _ .vmem, ⟨4, _⟩ => ⟨S2048x2048, .f32⟩
  | .local _ .vmem, ⟨5, _⟩ => ⟨S1x2048, .i32⟩
  | .local _ .vmem, ⟨6, _⟩ => ⟨S1x2048, .f32⟩
  | .local _ .vmem, ⟨7, _⟩ => ⟨S2048x2048, .f32⟩
  | .local _ .vmem, ⟨8, _⟩ => ⟨S2048x2048, .f32⟩
  | .local _ .vmem, ⟨9, _⟩ => ⟨S1024x2048, .f32⟩
  | .local _ .vmem, ⟨10, _⟩ => ⟨S1024x2048, .f32⟩
  | .local _ .vmem, ⟨11, _⟩ => ⟨S2048x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S32768x2048 : Shape := ⟨2, ![32768, 2048]⟩
abbrev S2048 : Shape := ⟨1, ![2048]⟩
abbrev S_ : Shape := ⟨0, ![]⟩
abbrev S2048x1 : Shape := ⟨2, ![2048, 1]⟩
abbrev S32768x32x64 : Shape := ⟨3, ![32768, 32, 64]⟩
abbrev S32x64 : Shape := ⟨2, ![32, 64]⟩
abbrev S1x32x64 : Shape := ⟨3, ![1, 32, 64]⟩
abbrev S32x32768x64 : Shape := ⟨3, ![32, 32768, 64]⟩
abbrev S32x64x64 : Shape := ⟨3, ![32, 64, 64]⟩
abbrev S8x256 : Shape := ⟨2, ![8, 256]⟩
abbrev S8 : Shape := ⟨1, ![8]⟩
abbrev S8x4 : Shape := ⟨2, ![8, 4]⟩
abbrev S32 : Shape := ⟨1, ![32]⟩
abbrev S32x1x1 : Shape := ⟨3, ![32, 1, 1]⟩
abbrev S64x64 : Shape := ⟨2, ![64, 64]⟩
abbrev S1x64x64 : Shape := ⟨3, ![1, 64, 64]⟩
abbrev S32x64x32768 : Shape := ⟨3, ![32, 64, 32768]⟩
abbrev S2048x32768 : Shape := ⟨2, ![2048, 32768]⟩

abbrev nBuf : Space → Nat
  | .hbm => 177
  | .vmem => 0
  | .smem => 0
  | _ => 0

abbrev hbmTy0_0 (i : Nat) : BufTy := match i % 128 with
  | 0 => ⟨S32768x2048, .f32⟩
  | 1 => ⟨S2048, .i32⟩
  | 2 => ⟨S_, .i32⟩
  | 3 => ⟨S2048, .i32⟩
  | 4 => ⟨S2048, .i1⟩
  | 5 => ⟨S_, .i32⟩
  | 6 => ⟨S2048, .i32⟩
  | 7 => ⟨S2048, .i32⟩
  | 8 => ⟨S2048, .i32⟩
  | 9 => ⟨S2048x1, .i32⟩
  | 10 => ⟨S32768x2048, .f32⟩
  | 11 => ⟨S32768x32x64, .f32⟩
  | 12 => ⟨S_, .f32⟩
  | 13 => ⟨S32x64, .f32⟩
  | 14 => ⟨S1x32x64, .f32⟩
  | 15 => ⟨S_, .f32⟩
  | 16 => ⟨S1x32x64, .f32⟩
  | 17 => ⟨S1x32x64, .f32⟩
  | 18 => ⟨S32768x32x64, .f32⟩
  | 19 => ⟨S32768x32x64, .f32⟩
  | 20 => ⟨S32x32768x64, .f32⟩
  | 21 => ⟨S32x64x64, .f32⟩
  | 22 => ⟨S_, .f32⟩
  | 23 => ⟨S32x64x64, .f32⟩
  | 24 => ⟨S32x64x64, .f32⟩
  | 25 => ⟨S32x64x64, .f32⟩
  | 26 => ⟨S_, .f32⟩
  | 27 => ⟨S32x64, .f32⟩
  | 28 => ⟨S8x256, .f32⟩
  | 29 => ⟨S_, .f32⟩
  | 30 => ⟨S8, .f32⟩
  | 31 => ⟨S_, .f32⟩
  | 32 => ⟨S8, .f32⟩
  | 33 => ⟨S8, .f32⟩
  | 34 => ⟨S8x4, .f32⟩
  | 35 => ⟨S32, .f32⟩
  | 36 => ⟨S32x1x1, .f32⟩
  | 37 => ⟨S64x64, .i32⟩
  | 38 => ⟨S64x64, .i32⟩
  | 39 => ⟨S_, .i32⟩
  | 40 => ⟨S64x64, .i32⟩
  | 41 => ⟨S64x64, .i32⟩
  | 42 => ⟨S64x64, .i1⟩
  | 43 => ⟨S64x64, .f32⟩
  | 44 => ⟨S1x64x64, .f32⟩
  | 45 => ⟨S32x64x64, .f32⟩
  | 46 => ⟨S32x64x64, .f32⟩
  | 47 => ⟨S32x64x64, .f32⟩
  | 48 => ⟨S_, .f32⟩
  | 49 => ⟨S1x64x64, .f32⟩
  | 50 => ⟨S1x64x64, .f32⟩
  | 51 => ⟨S32x64x64, .f32⟩
  | 52 => ⟨S_, .f32⟩
  | 53 => ⟨S32x64x64, .f32⟩
  | 54 => ⟨S32x64x64, .f32⟩
  | 55 => ⟨S32x64x64, .f32⟩
  | 56 => ⟨S32x64x64, .f32⟩
  | 57 => ⟨S32x64x64, .f32⟩
  | 58 => ⟨S32x64x64, .f32⟩
  | 59 => ⟨S_, .f32⟩
  | 60 => ⟨S1x64x64, .f32⟩
  | 61 => ⟨S1x64x64, .f32⟩
  | 62 => ⟨S32x64x64, .f32⟩
  | 63 => ⟨S_, .f32⟩
  | 64 => ⟨S32x64x64, .f32⟩
  | 65 => ⟨S32x64x64, .f32⟩
  | 66 => ⟨S32x64x64, .f32⟩
  | 67 => ⟨S32x64x64, .f32⟩
  | 68 => ⟨S32x64x64, .f32⟩
  | 69 => ⟨S32x64x64, .f32⟩
  | 70 => ⟨S_, .f32⟩
  | 71 => ⟨S1x64x64, .f32⟩
  | 72 => ⟨S1x64x64, .f32⟩
  | 73 => ⟨S32x64x64, .f32⟩
  | 74 => ⟨S_, .f32⟩
  | 75 => ⟨S32x64x64, .f32⟩
  | 76 => ⟨S32x64x64, .f32⟩
  | 77 => ⟨S32x64x64, .f32⟩
  | 78 => ⟨S32x64x64, .f32⟩
  | 79 => ⟨S32x64x64, .f32⟩
  | 80 => ⟨S32x64x64, .f32⟩
  | 81 => ⟨S_, .f32⟩
  | 82 => ⟨S1x64x64, .f32⟩
  | 83 => ⟨S1x64x64, .f32⟩
  | 84 => ⟨S32x64x64, .f32⟩
  | 85 => ⟨S_, .f32⟩
  | 86 => ⟨S32x64x64, .f32⟩
  | 87 => ⟨S32x64x64, .f32⟩
  | 88 => ⟨S32x64x64, .f32⟩
  | 89 => ⟨S32x64x64, .f32⟩
  | 90 => ⟨S32x64x64, .f32⟩
  | 91 => ⟨S32x64x64, .f32⟩
  | 92 => ⟨S_, .f32⟩
  | 93 => ⟨S1x64x64, .f32⟩
  | 94 => ⟨S1x64x64, .f32⟩
  | 95 => ⟨S32x64x64, .f32⟩
  | 96 => ⟨S_, .f32⟩
  | 97 => ⟨S32x64x64, .f32⟩
  | 98 => ⟨S32x64x64, .f32⟩
  | 99 => ⟨S32x64x64, .f32⟩
  | 100 => ⟨S32x64x64, .f32⟩
  | 101 => ⟨S32x64x64, .f32⟩
  | 102 => ⟨S32x64x64, .f32⟩
  | 103 => ⟨S_, .f32⟩
  | 104 => ⟨S1x64x64, .f32⟩
  | 105 => ⟨S1x64x64, .f32⟩
  | 106 => ⟨S32x64x64, .f32⟩
  | 107 => ⟨S_, .f32⟩
  | 108 => ⟨S32x64x64, .f32⟩
  | 109 => ⟨S32x64x64, .f32⟩
  | 110 => ⟨S32x64x64, .f32⟩
  | 111 => ⟨S32x64x64, .f32⟩
  | 112 => ⟨S32x64x64, .f32⟩
  | 113 => ⟨S32x64x64, .f32⟩
  | 114 => ⟨S_, .f32⟩
  | 115 => ⟨S1x64x64, .f32⟩
  | 116 => ⟨S1x64x64, .f32⟩
  | 117 => ⟨S32x64x64, .f32⟩
  | 118 => ⟨S_, .f32⟩
  | 119 => ⟨S32x64x64, .f32⟩
  | 120 => ⟨S32x64x64, .f32⟩
  | 121 => ⟨S32x64x64, .f32⟩
  | 122 => ⟨S32x64x64, .f32⟩
  | 123 => ⟨S32x64x64, .f32⟩
  | 124 => ⟨S32x64x64, .f32⟩
  | 125 => ⟨S_, .f32⟩
  | 126 => ⟨S1x64x64, .f32⟩
  | 127 => ⟨S1x64x64, .f32⟩
  | _ => ⟨S32768x2048, .f32⟩

abbrev hbmTy0_1 (i : Nat) : BufTy := match i % 128 with
  | 0 => ⟨S32x64x64, .f32⟩
  | 1 => ⟨S_, .f32⟩
  | 2 => ⟨S32x64x64, .f32⟩
  | 3 => ⟨S32x64x64, .f32⟩
  | 4 => ⟨S32x64x64, .f32⟩
  | 5 => ⟨S32x64x64, .f32⟩
  | 6 => ⟨S32x64x64, .f32⟩
  | 7 => ⟨S32x64x64, .f32⟩
  | 8 => ⟨S_, .f32⟩
  | 9 => ⟨S1x64x64, .f32⟩
  | 10 => ⟨S1x64x64, .f32⟩
  | 11 => ⟨S32x64x64, .f32⟩
  | 12 => ⟨S_, .f32⟩
  | 13 => ⟨S32x64x64, .f32⟩
  | 14 => ⟨S32x64x64, .f32⟩
  | 15 => ⟨S32x64x64, .f32⟩
  | 16 => ⟨S32x64x64, .f32⟩
  | 17 => ⟨S32x64x64, .f32⟩
  | 18 => ⟨S32x64x64, .f32⟩
  | 19 => ⟨S_, .f32⟩
  | 20 => ⟨S1x64x64, .f32⟩
  | 21 => ⟨S1x64x64, .f32⟩
  | 22 => ⟨S32x64x64, .f32⟩
  | 23 => ⟨S_, .f32⟩
  | 24 => ⟨S32x64x64, .f32⟩
  | 25 => ⟨S32x64x64, .f32⟩
  | 26 => ⟨S32x64x64, .f32⟩
  | 27 => ⟨S32x64x64, .f32⟩
  | 28 => ⟨S32x64x64, .f32⟩
  | 29 => ⟨S32x64x64, .f32⟩
  | 30 => ⟨S32x1x1, .f32⟩
  | 31 => ⟨S32x64x64, .f32⟩
  | 32 => ⟨S32x64x64, .f32⟩
  | 33 => ⟨S32x32768x64, .f32⟩
  | 34 => ⟨S2048, .i32⟩
  | 35 => ⟨S2048, .i32⟩
  | 36 => ⟨S2048, .i32⟩
  | 37 => ⟨S32x64x32768, .f32⟩
  | 38 => ⟨S2048x32768, .f32⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S2048x32768, .f32⟩
  | 48 => ⟨S32768x2048, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_17 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_18 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_19 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_21 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_22 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_23 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_24 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_25 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_26 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_call0_v0 : Ref sig .tc := ⟨.hbm, 162, rfl⟩
abbrev main_call0_v1_0 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_c_27 : Ref sig .tc := ⟨.hbm, 167, rfl⟩
abbrev main_v134 : Ref sig .tc := ⟨.hbm, 168, rfl⟩
abbrev main_v135 : Ref sig .tc := ⟨.hbm, 169, rfl⟩
abbrev main_c_28 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩

abbrev nD : Nat := 1
abbrev τ : Topo := Topo.v7x

variable {F : FTy → Type} [FloatOps F]
-- ==== Proof.KernelRun.lean ====
/-
  What a run of the idealized kernel ends with: the generated launch over the three kernel regions, read at the result's array as
  well as at the arguments'.
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

set_option backward.isDefEq.respectTransparency.types false in
/-- Every execution of the three regions ends with the result's array as the last valuation `W4` of the chain of regions states it and
    with both argument arrays unchanged. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.KernelIdeal.Whole

end
-- ==== Proof.StatsForm.lean ====
/-
  The statistics region's run in closed form: the thirty-six upper 256 × 256 blocks of the gram matrix as one recursion over the list of
  block pairs, at the first point (over the zeroing store), at the middle points (over what the point before left) and at the last point
  (where each diagonal block is halved as well); and the row of column sums.
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

variable {F : FTy → Type} [FloatOps F]

/-- The block pairs on and above the diagonal, the last stored first. -/
def pairs : List (Fin 8 × Fin 8) :=
  [(7, 7), (6, 7), (6, 6), (5, 7), (5, 6), (5, 5), (4, 7), (4, 6), (4, 5), (4, 4), (3, 7), (3, 6), (3, 5), (3, 4), (3, 3),
   (2, 7), (2, 6), (2, 5), (2, 4), (2, 3), (2, 2), (1, 7), (1, 6), (1, 5), (1, 4), (1, 3), (1, 2), (1, 1),
   (0, 7), (0, 6), (0, 5), (0, 4), (0, 3), (0, 2), (0, 1), (0, 0)]

/-- A pair is listed exactly when it lies on or above the diagonal. -/
theorem mem_pairs (p : Fin 8 × Fin 8) : p ∈ pairs ↔ p.1 ≤ p.2 := by revert p; decide

/-- No pair is listed twice. -/
theorem nodup_pairs : pairs.Nodup := by decide

/-- A 256-column block lies inside a row block's columns. -/
theorem slices_block (b : Fin 8) : S1024x2048.Slices ![0, 256 * b.val] S1024x256 := by revert b; decide

/-- One block's update: its old contents plus the product of the two column blocks over the rows. -/
def addBlock (p : Fin 8 × Fin 8) (xb : Vec F S1024x2048 .f32) (old : Vec F S256x256 .f32) : FVec F S256x256 .f32 :=
  addf (shapeCast S256x256 old shapeCasts_S256x256_S256x256)
    (matmul dot_S1024x256_S1024x256_S256x256_0_0_1_1_n_n none
      (extractStridedSlice S1024x256 ![0, 256 * p.1.val] xb (slices_block p.1))
      (extractStridedSlice S1024x256 ![0, 256 * p.2.val] xb (slices_block p.2)) (constant S256x256 .f32 0x00000000#32))

/-- A block halved. -/
def halve (old : Vec F S256x256 .f32) : FVec F S256x256 .f32 :=
  mulf (shapeCast S256x256 old shapeCasts_S256x256_S256x256) (broadcast S256x256 (Scalar.ofBits .f32 0x3F000000#32))

/-- The rectangle of a block pair. -/
def rectBlock (p : Fin 8 × Fin 8) : Rect S2048x2048 :=
  Rect.unit ![256 * p.1.val, 256 * p.2.val] S256x256.size (by
    obtain ⟨a, b⟩ := p; intro i; revert a b; revert i; decide)

/-- The stores of the blocks `ps` over earlier stores `base`, `rd` being the read of a block of what was stored before. -/
def blockPieces (rd : List (View.Piece (Elt F) S2048x2048 .f32) → Fin 8 × Fin 8 → Vec F S256x256 .f32) (xb : Vec F S1024x2048 .f32)
    (base : List (View.Piece (Elt F) S2048x2048 .f32)) : List (Fin 8 × Fin 8) → List (View.Piece (Elt F) S2048x2048 .f32)
  | [] => base
  | p :: ps => ⟨rectBlock p, addBlock p xb (rd (blockPieces rd xb base ps) p)⟩ :: blockPieces rd xb base ps

/-- The halving stores of the diagonal blocks `bs` over the stores `base`. -/
def halvePieces (rd : List (View.Piece (Elt F) S2048x2048 .f32) → Fin 8 × Fin 8 → Vec F S256x256 .f32)
    (base : List (View.Piece (Elt F) S2048x2048 .f32)) : List (Fin 8) → List (View.Piece (Elt F) S2048x2048 .f32)
  | [] => base
  | b :: bs => ⟨rectBlock (b, b), halve (rd (halvePieces rd base bs) (b, b))⟩ :: halvePieces rd base bs

/-- The zeroing store. -/
def zeroPiece : List (View.Piece (Elt F) S2048x2048 .f32) :=
  [⟨Rect.unit ![0, 0] S2048x2048.size inb_S2048x2048_S2048x2048_0_0, broadcast S2048x2048 (Scalar.ofBits .f32 0x00000000#32)⟩]

section Runs

variable (c : Dev nD) (i : grid0.Coords) (arg1 : Memref sig .tc .vmem S1024x2048 .f32) (harg1 : arg1.IsWhole)
  (arg2 : Memref sig .tc .vmem S1x2048 .f32) (harg2 : arg2.IsWhole) (arg3 : Memref sig .tc .vmem S2048x2048 .f32) (harg3 : arg3.IsWhole)
  (x0 : Vec F S1024x2048 .f32) (xo1 : Vec F S1x2048 .f32) (xo2 : Vec F S2048x2048 .f32)

/-- The row block as the body reads it. -/
def rowsRead : Vec F S1024x2048 .f32 :=
  View.readAt (Elt F) arg1.view (Rect.unit ![0, 0] S1024x2048.size inb_S1024x2048_S1024x2048_0_0).toLoadRect (harg1.unread x0)

/-- The whole rectangle of the row of sums. -/
abbrev rectRow : Rect S1x2048 := Rect.unit ![0, 0] S1x2048.size inb_S1x2048_S1x2048_0_0

/-- The gram stores at the first point. -/
theorem run_A_gram (hc0 : cond0_0 i) (hc1 : ¬cond0_1 i) :
    (kernelRun0_A c i arg1 harg1 arg2 harg2 arg3 harg3 hc0 hc1 x0).2.1
      = blockPieces (fun L p => arg3.view.readCov L (rectBlock p).toLoadRect) (rowsRead arg1 harg1 x0) zeroPiece pairs := by
  sl_kernel_rfl

/-- The gram stores at a middle point. -/
theorem run_B_gram (hc0 : ¬cond0_0 i) (hc1 : ¬cond0_1 i) :
    (kernelRun0_B c i arg1 harg1 arg2 harg2 arg3 harg3 hc0 hc1 x0 xo1 xo2).2.1
      = blockPieces (fun _ p => View.readAt (Elt F) arg3.view (rectBlock p).toLoadRect (harg3.unread xo2)) (rowsRead arg1 harg1 x0) [] pairs := by
  sl_kernel_rfl

/-- The gram stores at the last point. -/
theorem run_C_gram (hc0 : ¬cond0_0 i) (hc1 : cond0_1 i) :
    (kernelRun0_C c i arg1 harg1 arg2 harg2 arg3 harg3 hc0 hc1 x0 xo1 xo2).2.1
      = halvePieces (fun L p => arg3.view.readCov L (rectBlock p).toLoadRect)
          (blockPieces (fun _ p => View.readAt (Elt F) arg3.view (rectBlock p).toLoadRect (harg3.unread xo2)) (rowsRead arg1 harg1 x0) [] pairs)
          [7, 6, 5, 4, 3, 2, 1, 0] := by
  sl_kernel_rfl

/-- The sums' stores at the first point. -/
theorem run_A_row (hc0 : cond0_0 i) (hc1 : ¬cond0_1 i) :
    (kernelRun0_A c i arg1 harg1 arg2 harg2 arg3 harg3 hc0 hc1 x0).1
      = [⟨rectRow, k0_pay17 (rowsRead arg1 harg1 x0) (arg2.view.readCov [⟨rectRow, k0_pay15⟩] rectRow.toLoadRect)⟩, ⟨rectRow, k0_pay15⟩] := by
  sl_kernel_rfl

/-- The sums' store at a middle point. -/
theorem run_B_row (hc0 : ¬cond0_0 i) (hc1 : ¬cond0_1 i) :
    (kernelRun0_B c i arg1 harg1 arg2 harg2 arg3 harg3 hc0 hc1 x0 xo1 xo2).1
      = [⟨rectRow, k0_pay17 (rowsRead arg1 harg1 x0) (View.readAt (Elt F) arg2.view rectRow.toLoadRect (harg2.unread xo1))⟩] := by
  sl_kernel_rfl

/-- The sums' stores at the last point: the sum, then its product with 1/32768. -/
theorem run_C_row (hc0 : ¬cond0_0 i) (hc1 : cond0_1 i) :
    (kernelRun0_C c i arg1 harg1 arg2 harg2 arg3 harg3 hc0 hc1 x0 xo1 xo2).1
      = [⟨rectRow, k0_pay9 (arg2.view.readCov
            [⟨rectRow, k0_pay17 (rowsRead arg1 harg1 x0) (View.readAt (Elt F) arg2.view rectRow.toLoadRect (harg2.unread xo1))⟩] rectRow.toLoadRect)⟩,
         ⟨rectRow, k0_pay17 (rowsRead arg1 harg1 x0) (View.readAt (Elt F) arg2.view rectRow.toLoadRect (harg2.unread xo1))⟩] := by
  sl_kernel_rfl

end Runs

end Cert.KernelIdeal.Whole

end
-- ==== Proof.BlockReads.lean ====
/-
  What the stores of the statistics region leave, read back at an index, over the extended reals.
-/
module

public import proofs.«01_k».proof.Proof.StatsForm
public import Idealize.ShloMosaic.Lib.Pointwise
public import Idealize.ShloMosaic.Lib.WritesUnit

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

/-- The 256-column block a column lies in. -/
def blk (i : Fin 2048) : Fin 8 := ⟨i.val / 256, by omega⟩
/-- The column's place inside its block. -/
def lo (i : Fin 2048) : Fin 256 := ⟨i.val % 256, by omega⟩
/-- The column at a place of a block. -/
def col (b : Fin 8) (a : Fin 256) : Fin 2048 := ⟨256 * b.val + a.val, by omega⟩

theorem col_blk_lo (i : Fin 2048) : col (blk i) (lo i) = i := Fin.ext (by simp only [col, blk, lo]; omega)
theorem blk_col (b : Fin 8) (a : Fin 256) : blk (col b a) = b := Fin.ext (by simp only [col, blk]; omega)
theorem lo_col (b : Fin 8) (a : Fin 256) : lo (col b a) = a := Fin.ext (by simp only [col, lo]; omega)

/-- A block's update at an entry: the old entry plus the sum over the rows of the products of the two columns' entries. -/
theorem addBlock_apply (p : Fin 8 × Fin 8) (xb : Vec Ideal S1024x2048 .f32) (old : Vec Ideal S256x256 .f32) (a b : Fin 256) :
    addBlock p xb old (ix2 a b) = old (ix2 a b) + ∑ r : Fin 1024, (xb (ix2 r (col p.1 a)) : EReal) * xb (ix2 r (col p.2 b)) := by
  pointwise [addBlock]
  rfl

/-- The bits of one half. -/
theorem half_bits : Ideal.ofBits .f32 0x3F000000#32 = ((1 / 2 : ℝ) : EReal) := by
  simp [Ideal.ofBits, Ideal.ieee, -EReal.coe_mul]; norm_num

/-- The bits of 1/32768. -/
theorem inv_rows_bits : Ideal.ofBits .f32 0x38000000#32 = ((1 / 32768 : ℝ) : EReal) := by
  simp [Ideal.ofBits, Ideal.ieee, -EReal.coe_mul]; norm_num

/-- A halved block at an entry. -/
theorem halve_apply (old : Vec Ideal S256x256 .f32) (a b : Fin 256) :
    halve old (ix2 a b) = old (ix2 a b) * ((1 / 2 : ℝ) : EReal) := by
  pointwise [halve]
  rw [half_bits]

section Blocks

variable {sig' : RefSig} {κ : Kind} {sp : Space} (v : View sig' κ sp S2048x2048 .f32) (f : v.ty.Contents (Elt Ideal))

/-- A block's store read inside its block. -/
theorem read_block_of_mem (p : Fin 8 × Fin 8) (w : (rectBlock p).shape.Idx → Elt Ideal .f32)
    (L : List (View.Piece (Elt Ideal) S2048x2048 .f32)) (i j : Fin 2048) (h : (blk i, blk j) = p) :
    v.read (Elt Ideal) (v.writes (Elt Ideal) f (⟨rectBlock p, w⟩ :: L)) (ix2 i j) = w (ix2 (lo i) (lo j)) := by
  subst h
  refine View.read_writes_cons_unit_of_mem v f _ w L (ix2 i j) (ix2 (lo i) (lo j)) rfl fun a => ?_
  match a with
  | ⟨0, _⟩ => exact (congrArg Fin.val (col_blk_lo i)).symm
  | ⟨1, _⟩ => exact (congrArg Fin.val (col_blk_lo j)).symm

/-- A block's store read outside its block: the stores before it. -/
theorem read_block_of_not_mem (p : Fin 8 × Fin 8) (w : (rectBlock p).shape.Idx → Elt Ideal .f32)
    (L : List (View.Piece (Elt Ideal) S2048x2048 .f32)) (i j : Fin 2048) (h : (blk i, blk j) ≠ p) :
    v.read (Elt Ideal) (v.writes (Elt Ideal) f (⟨rectBlock p, w⟩ :: L)) (ix2 i j)
      = v.read (Elt Ideal) (v.writes (Elt Ideal) f L) (ix2 i j) := by
  obtain ⟨a, b⟩ := p
  by_cases h0 : blk i = a
  · have h1 : blk j ≠ b := fun e => h (by rw [h0, e])
    refine View.read_writes_cons_unit_of_not_mem v f _ w L (ix2 i j) rfl (1 : Fin 2) ?_
    have h2 : j.val / 256 ≠ b.val := fun e => h1 (Fin.ext e)
    show j.val < 256 * b.val ∨ 256 * b.val + 256 ≤ j.val
    omega
  · refine View.read_writes_cons_unit_of_not_mem v f _ w L (ix2 i j) rfl (0 : Fin 2) ?_
    have h2 : i.val / 256 ≠ a.val := fun e => h0 (Fin.ext e)
    show i.val < 256 * a.val ∨ 256 * a.val + 256 ≤ i.val
    omega

/-- The product of two columns of a row block, summed over its rows. -/
def colDot (xb : Vec Ideal S1024x2048 .f32) (i j : Fin 2048) : EReal := ∑ r : Fin 1024, (xb (ix2 r i) : EReal) * xb (ix2 r j)

/-- The stores of the blocks `ps` over earlier stores `L0` that read `g`: where each block's own read is `g` on that block, an entry in a
    listed block has the columns' product added, any other is as before. -/
theorem read_blockPieces (xb : Vec Ideal S1024x2048 .f32) (L0 : List (View.Piece (Elt Ideal) S2048x2048 .f32))
    (rd : List (View.Piece (Elt Ideal) S2048x2048 .f32) → Fin 8 × Fin 8 → Vec Ideal S256x256 .f32)
    (g : Fin 2048 → Fin 2048 → EReal)
    (h0 : ∀ i j, v.read (Elt Ideal) (v.writes (Elt Ideal) f L0) (ix2 i j) = g i j)
    (hrd : ∀ (L : List (View.Piece (Elt Ideal) S2048x2048 .f32)) (p : Fin 8 × Fin 8),
      (∀ a b, v.read (Elt Ideal) (v.writes (Elt Ideal) f L) (ix2 (col p.1 a) (col p.2 b)) = g (col p.1 a) (col p.2 b)) →
      ∀ a b, rd L p (ix2 a b) = g (col p.1 a) (col p.2 b)) :
    ∀ (ps : List (Fin 8 × Fin 8)), ps.Nodup → ∀ i j,
      v.read (Elt Ideal) (v.writes (Elt Ideal) f (blockPieces rd xb L0 ps)) (ix2 i j)
        = if (blk i, blk j) ∈ ps then g i j + colDot xb i j else g i j
  | [], _, i, j => by rw [if_neg List.not_mem_nil]; exact h0 i j
  | p :: ps, hn, i, j => by
    have ih := read_blockPieces xb L0 rd g h0 hrd ps (List.nodup_cons.mp hn).2
    have hp := (List.nodup_cons.mp hn).1
    by_cases h : (blk i, blk j) = p
    · rw [if_pos (List.mem_cons.mpr (Or.inl h))]
      refine (read_block_of_mem v f p _ _ i j h).trans ((addBlock_apply p xb _ (lo i) (lo j)).trans ?_)
      rw [hrd _ p (fun a b => by rw [ih, blk_col, blk_col, if_neg hp])]
      subst h
      simp only [col_blk_lo]
      rfl
    · refine (read_block_of_not_mem v f p _ _ i j h).trans ?_
      rw [ih]
      simp only [List.mem_cons, h, false_or]

/-- The halving stores of the diagonal blocks `bs` over stores that read `g`. -/
theorem read_halvePieces (L0 : List (View.Piece (Elt Ideal) S2048x2048 .f32))
    (rd : List (View.Piece (Elt Ideal) S2048x2048 .f32) → Fin 8 × Fin 8 → Vec Ideal S256x256 .f32)
    (g : Fin 2048 → Fin 2048 → EReal)
    (h0 : ∀ i j, v.read (Elt Ideal) (v.writes (Elt Ideal) f L0) (ix2 i j) = g i j) :
    ∀ (bs : List (Fin 8)), bs.Nodup →
    (∀ (bs' : List (Fin 8)) (b : Fin 8),
      (∀ a a', v.read (Elt Ideal) (v.writes (Elt Ideal) f (halvePieces rd L0 bs')) (ix2 (col b a) (col b a')) = g (col b a) (col b a')) →
      ∀ a a', rd (halvePieces rd L0 bs') (b, b) (ix2 a a') = g (col b a) (col b a')) → ∀ i j,
      v.read (Elt Ideal) (v.writes (Elt Ideal) f (halvePieces rd L0 bs)) (ix2 i j)
        = if blk i = blk j ∧ blk i ∈ bs then g i j * ((1 / 2 : ℝ) : EReal) else g i j
  | [], _, _, i, j => by rw [if_neg (fun h => List.not_mem_nil h.2)]; exact h0 i j
  | b :: bs, hn, hrd, i, j => by
    have ih := read_halvePieces L0 rd g h0 bs (List.nodup_cons.mp hn).2 hrd
    have hp := (List.nodup_cons.mp hn).1
    by_cases h : (blk i, blk j) = (b, b)
    · have hi : blk i = b := congrArg Prod.fst h
      have hj : blk j = b := congrArg Prod.snd h
      rw [if_pos ⟨hi.trans hj.symm, List.mem_cons.mpr (Or.inl hi)⟩]
      refine (read_block_of_mem v f (b, b) _ _ i j h).trans ((halve_apply _ (lo i) (lo j)).trans ?_)
      rw [hrd bs b (fun a a' => by rw [ih, blk_col, blk_col, if_neg (fun e => hp e.2)])]
      subst hi
      rw [col_blk_lo, ← hj, col_blk_lo]
    · refine (read_block_of_not_mem v f (b, b) _ _ i j h).trans ?_
      rw [ih]
      refine if_congr ⟨fun e => ⟨e.1, List.mem_cons.mpr (Or.inr e.2)⟩, fun e => ⟨e.1, ?_⟩⟩ rfl rfl
      rcases List.mem_cons.mp e.2 with e' | e'
      · exact absurd (by rw [← e.1, e']) h
      · exact e'

end Blocks

end Cert.KernelIdeal.Whole

end
-- ==== Proof.StatsPoint.lean ====
/-
  One point of the statistics region at an index, over the extended reals: the column sums and the upper blocks of the gram matrix
  after the point, from what they were before it.
-/
module

public import proofs.«01_k».proof.Proof.BlockReads

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

/-- The sums' update at a column: the old sum plus the row block's column sum. -/
theorem pay17_apply (xb : Vec Ideal S1024x2048 .f32) (old : Vec Ideal S1x2048 .f32) (j : Fin 2048) :
    k0_pay17 xb old (ix2 0 j) = old (ix2 0 j) + ∑ r : Fin 1024, (xb (ix2 r j) : EReal) := by
  pointwise [k0_pay17]

/-- The zero row. -/
theorem pay15_apply (j : Fin 2048) : k0_pay15 (F := Ideal) (ix2 0 j) = (0 : EReal) := by
  pointwise [k0_pay15]

/-- The sums times 1/32768. -/
theorem pay9_apply (old : Vec Ideal S1x2048 .f32) (j : Fin 2048) :
    k0_pay9 old (ix2 0 j) = old (ix2 0 j) * ((1 / 32768 : ℝ) : EReal) := by
  pointwise [k0_pay9]
  rw [inv_rows_bits]

/-- The row block as the body reads it is the block. -/
theorem rowsRead_eq (arg1 : Memref sig .tc .vmem S1024x2048 .f32) (harg1 : arg1.IsWhole) (x0 : Vec Ideal S1024x2048 .f32) :
    rowsRead arg1 harg1 x0 = x0 := by
  unfold rowsRead
  rw [View.readAt_eq_ld, harg1.read_unread]
  exact View.ld_unit_zero (by decide) _ x0

/-- The zero fill reads zero. -/
theorem zeroPiece_apply {sig' : RefSig} {κ : Kind} {sp : Space} (v : View sig' κ sp S2048x2048 .f32) (f : v.ty.Contents (Elt Ideal))
    (i j : Fin 2048) : v.read (Elt Ideal) (v.writes (Elt Ideal) f zeroPiece) (ix2 i j) = (0 : EReal) := by
  refine (View.read_writes_cons_unit_of_mem v f _ _ [] (ix2 i j) (ix2 i j) (off' := ![0, 0]) rfl fun a => ?_).trans ?_
  · match a with
    | ⟨0, _⟩ => exact (Nat.zero_add _).symm
    | ⟨1, _⟩ => exact (Nat.zero_add _).symm
  · show Ideal.ofBits .f32 0x00000000#32 = 0
    simp [Ideal.ofBits, Ideal.ieee]

/-- A covering read of a block of the gram matrix is a read of the stores over junk. -/
theorem readCov_block (v : View sig .tc .vmem S2048x2048 .f32) (L : List (View.Piece (Elt Ideal) S2048x2048 .f32)) (p : Fin 8 × Fin 8)
    (a b : Fin 256) :
    v.readCov L (rectBlock p).toLoadRect (ix2 a b) = v.read (Elt Ideal) (v.writes (Elt Ideal) v.junk L) (ix2 (col p.1 a) (col p.2 b)) := by
  rw [View.readCov_eq_canon', View.read_writes_junk_eq_canon]
  refine congrArg (View.canon L) (funext fun k => Fin.ext ?_)
  match k with
  | ⟨0, _⟩ => exact (congrArg (256 * p.1.val + ·) (Nat.one_mul a.val))
  | ⟨1, _⟩ => exact (congrArg (256 * p.2.val + ·) (Nat.one_mul b.val))

/-- A read of a block of the gram matrix as the point before left it. -/
theorem readAt_block (arg3 : Memref sig .tc .vmem S2048x2048 .f32) (harg3 : arg3.IsWhole) (xo2 : Vec Ideal S2048x2048 .f32)
    (p : Fin 8 × Fin 8) (a b : Fin 256) :
    View.readAt (Elt Ideal) arg3.view (rectBlock p).toLoadRect (harg3.unread xo2) (ix2 a b) = xo2 (ix2 (col p.1 a) (col p.2 b)) := by
  rw [View.readAt_eq_ld, harg3.read_unread]
  refine congrArg xo2 (funext fun k => Fin.ext ?_)
  match k with
  | ⟨0, _⟩ => exact (congrArg (256 * p.1.val + ·) (Nat.one_mul a.val))
  | ⟨1, _⟩ => exact (congrArg (256 * p.2.val + ·) (Nat.one_mul b.val))

/-- A store of the whole row is what it stores. -/
theorem read_row (v : View sig .tc .vmem S1x2048 .f32) (f : v.ty.Contents (Elt Ideal)) (w : Vec Ideal S1x2048 .f32)
    (L : List (View.Piece (Elt Ideal) S1x2048 .f32)) (j : Fin 2048) :
    v.read (Elt Ideal) (v.writes (Elt Ideal) f (⟨rectRow, w⟩ :: L)) (ix2 0 j) = w (ix2 0 j) := by
  refine View.read_writes_cons_unit_of_mem v f _ w L (ix2 0 j) (ix2 0 j) (off' := ![0, 0]) rfl fun a => ?_
  match a with
  | ⟨0, _⟩ => exact (Nat.zero_add _).symm
  | ⟨1, _⟩ => exact (Nat.zero_add _).symm

/-- A covering read of the row is its last store. -/
theorem readCov_row (v : View sig .tc .vmem S1x2048 .f32) (w : Vec Ideal S1x2048 .f32)
    (L : List (View.Piece (Elt Ideal) S1x2048 .f32)) (j : Fin 2048) :
    v.readCov (⟨rectRow, w⟩ :: L) rectRow.toLoadRect (ix2 0 j) = w (ix2 0 j) := by
  rw [View.readCov_eq_canon', ← View.read_writes_junk_eq_canon v]
  have e : rectRow.toLoadRect.idx (ix2 0 j) = (ix2 0 j : S1x2048.Idx) := funext fun k => Fin.ext (by
    match k with
    | ⟨0, _⟩ => rfl
    | ⟨1, _⟩ => exact (Nat.zero_add _).trans (Nat.one_mul _))
  exact (congrArg _ e).trans (read_row v _ w L j)

/-- A read of the row as the point before left it. -/
theorem readAt_row (arg2 : Memref sig .tc .vmem S1x2048 .f32) (harg2 : arg2.IsWhole) (xo1 : Vec Ideal S1x2048 .f32) :
    View.readAt (Elt Ideal) arg2.view rectRow.toLoadRect (harg2.unread xo1) = xo1 := by
  rw [View.readAt_eq_ld, harg2.read_unread]
  exact View.ld_unit_zero (by decide) _ xo1

/-- A listed block is among the stores. -/
theorem exists_block (rd : List (View.Piece (Elt Ideal) S2048x2048 .f32) → Fin 8 × Fin 8 → Vec Ideal S256x256 .f32)
    (xb : Vec Ideal S1024x2048 .f32) (i j : Fin 2048) : ∀ (ps : List (Fin 8 × Fin 8)), (blk i, blk j) ∈ ps →
    ∃ q ∈ blockPieces rd xb [] ps, (ix2 i j : S2048x2048.Idx) ∈ q.1.set
  | p :: ps, h => by
    rcases List.mem_cons.mp h with h | h
    · subst h
      refine ⟨_, List.mem_cons.mpr (Or.inl rfl), ?_⟩
      have e : (rectBlock (blk i, blk j)).idx (ix2 (lo i) (lo j)) = (ix2 i j : S2048x2048.Idx) := funext fun k => Fin.ext ?_
      · exact e ▸ (rectBlock (blk i, blk j)).idx_mem (ix2 (lo i) (lo j))
      match k with
      | ⟨0, _⟩ => exact (congrArg (256 * (blk i).val + ·) (Nat.one_mul _)).trans (congrArg Fin.val (col_blk_lo i))
      | ⟨1, _⟩ => exact (congrArg (256 * (blk j).val + ·) (Nat.one_mul _)).trans (congrArg Fin.val (col_blk_lo j))
    · obtain ⟨q, hq, hy⟩ := exists_block rd xb i j ps h
      exact ⟨q, List.mem_cons.mpr (Or.inr hq), hy⟩

/-- The stores of the blocks stay among the stores when the halvings are added. -/
theorem mem_halvePieces (rd : List (View.Piece (Elt Ideal) S2048x2048 .f32) → Fin 8 × Fin 8 → Vec Ideal S256x256 .f32)
    (L0 : List (View.Piece (Elt Ideal) S2048x2048 .f32)) (q : View.Piece (Elt Ideal) S2048x2048 .f32) (hq : q ∈ L0) :
    ∀ bs : List (Fin 8), q ∈ halvePieces rd L0 bs
  | [] => hq
  | _ :: bs => List.mem_cons.mpr (Or.inr (mem_halvePieces rd L0 q hq bs))

section Runs

variable (c : Dev nD) (i : grid0.Coords) (arg1 : Memref sig .tc .vmem S1024x2048 .f32) (harg1 : arg1.IsWhole)
  (arg2 : Memref sig .tc .vmem S1x2048 .f32) (harg2 : arg2.IsWhole) (arg3 : Memref sig .tc .vmem S2048x2048 .f32) (harg3 : arg3.IsWhole)
  (x0 : Vec Ideal S1024x2048 .f32) (xo1 : Vec Ideal S1x2048 .f32) (xo2 : Vec Ideal S2048x2048 .f32)

/-- First point, the sums: the row block's column sums. -/
theorem row_A (hc0 : cond0_0 i) (hc1 : ¬cond0_1 i) (j : Fin 2048) :
    out0_A_1 c i arg1 harg1 arg2 harg2 arg3 harg3 hc0 hc1 x0 (ix2 0 j) = ∑ r : Fin 1024, (x0 (ix2 r j) : EReal) := by
  unfold out0_A_1
  rw [run_A_row]
  refine (read_row _ _ _ _ j).trans ((pay17_apply _ _ j).trans ?_)
  rw [readCov_row, pay15_apply, zero_add, rowsRead_eq]

/-- A middle point, the sums: the sums before plus the row block's. -/
theorem row_B (hc0 : ¬cond0_0 i) (hc1 : ¬cond0_1 i) (j : Fin 2048) :
    out0_B_1 c i arg1 harg1 arg2 harg2 arg3 harg3 hc0 hc1 x0 xo1 xo2 (ix2 0 j)
      = xo1 (ix2 0 j) + ∑ r : Fin 1024, (x0 (ix2 r j) : EReal) := by
  unfold out0_B_1
  rw [run_B_row]
  refine (read_row _ _ _ _ j).trans ((pay17_apply _ _ j).trans ?_)
  rw [readAt_row, rowsRead_eq]

/-- The last point, the sums: the full sums times 1/32768. -/
theorem row_C (hc0 : ¬cond0_0 i) (hc1 : cond0_1 i) (j : Fin 2048) :
    out0_C_1 c i arg1 harg1 arg2 harg2 arg3 harg3 hc0 hc1 x0 xo1 xo2 (ix2 0 j)
      = (xo1 (ix2 0 j) + ∑ r : Fin 1024, (x0 (ix2 r j) : EReal)) * ((1 / 32768 : ℝ) : EReal) := by
  unfold out0_C_1
  rw [run_C_row]
  refine (read_row _ _ _ _ j).trans ((pay9_apply _ j).trans ?_)
  rw [readCov_row, pay17_apply, readAt_row, rowsRead_eq]

/-- First point, the gram matrix: the columns' products on the upper blocks, zero below. -/
theorem gram_A (hc0 : cond0_0 i) (hc1 : ¬cond0_1 i) (k l : Fin 2048) :
    out0_A_2 c i arg1 harg1 arg2 harg2 arg3 harg3 hc0 hc1 x0 (ix2 k l) = if blk k ≤ blk l then colDot x0 k l else (0 : EReal) := by
  unfold out0_A_2
  rw [run_A_gram]
  refine (read_blockPieces VO0_2 _ _ zeroPiece _ (fun _ _ => 0) (zeroPiece_apply _ _) (fun L p h a b => ?_) pairs nodup_pairs k l).trans ?_
  · rw [readCov_block, ← h a b, View.read_writes_junk_eq_canon, View.read_writes_junk_eq_canon]
  · simp only [mem_pairs, rowsRead_eq, zero_add]

/-- A middle point, the gram matrix: the columns' products added on the upper blocks, the rest as before. -/
theorem gram_B (hc0 : ¬cond0_0 i) (hc1 : ¬cond0_1 i) (k l : Fin 2048) :
    out0_B_2 c i arg1 harg1 arg2 harg2 arg3 harg3 hc0 hc1 x0 xo1 xo2 (ix2 k l)
      = if blk k ≤ blk l then xo2 (ix2 k l) + colDot x0 k l else (xo2 (ix2 k l) : EReal) := by
  unfold out0_B_2
  rw [run_B_gram]
  refine (read_blockPieces arg3.view _ _ [] _ (fun a b => xo2 (ix2 a b)) (fun a b => ?_) (fun L p _ a b => ?_) pairs nodup_pairs k l).trans ?_
  · exact congrFun (harg3.read_unread xo2) (ix2 a b)
  · exact readAt_block arg3 harg3 xo2 p a b
  · simp only [mem_pairs, rowsRead_eq]

/-- The last point, the gram matrix: as at a middle point, the diagonal blocks halved after. -/
theorem gram_C (hc0 : ¬cond0_0 i) (hc1 : cond0_1 i) (k l : Fin 2048) :
    out0_C_2 c i arg1 harg1 arg2 harg2 arg3 harg3 hc0 hc1 x0 xo1 xo2 (ix2 k l)
      = if blk k = blk l then (xo2 (ix2 k l) + colDot x0 k l) * ((1 / 2 : ℝ) : EReal)
        else if blk k ≤ blk l then xo2 (ix2 k l) + colDot x0 k l else (xo2 (ix2 k l) : EReal) := by
  unfold out0_C_2
  rw [run_C_gram]
  have hB := fun a b => read_blockPieces arg3.view (harg3.unread xo2) (rowsRead arg1 harg1 x0) []
    (fun _ p => View.readAt (Elt Ideal) arg3.view (rectBlock p).toLoadRect (harg3.unread xo2)) (fun a b => xo2 (ix2 a b))
    (fun a b => congrFun (harg3.read_unread xo2) (ix2 a b)) (fun L p _ a b => readAt_block arg3 harg3 xo2 p a b) pairs nodup_pairs a b
  refine (read_halvePieces arg3.view _ _ _ _ hB [7, 6, 5, 4, 3, 2, 1, 0] (by decide) (fun bs' b h a a' => ?_) k l).trans ?_
  · rw [readCov_block, ← h a a', View.read_writes_junk_eq_canon]
    refine (View.read_writes_apply_eq_canon _ _ _ _ ?_).symm
    obtain ⟨q, hq, hy⟩ := exists_block (fun _ p => View.readAt (Elt Ideal) arg3.view (rectBlock p).toLoadRect (harg3.unread xo2))
      (rowsRead arg1 harg1 x0) (col b a) (col b a') pairs (by rw [mem_pairs, blk_col, blk_col])
    exact ⟨q, mem_halvePieces _ _ q hq bs', hy⟩
  · have hall : ∀ b : Fin 8, b ∈ ([7, 6, 5, 4, 3, 2, 1, 0] : List (Fin 8)) := by decide
    simp only [mem_pairs, rowsRead_eq, hall, and_true]
    by_cases e : blk k = blk l
    · rw [if_pos e, if_pos e, if_pos (le_of_eq e)]
    · rw [if_neg e, if_neg e]

end Runs

end Cert.KernelIdeal.Whole

end
-- ==== Proof.StatsValue.lean ====
/-
  What the statistics region leaves in its two arrays, over the extended reals: the column means (the column sums times 1/32768) and the
  upper blocks of the gram matrix (its diagonal blocks halved), as sums over all rows.
-/
module

public import proofs.«01_k».proof.Proof.StatsPoint
public import Idealize.ShloMosaic.Lib.Pipeline.ValueKit

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

variable (V : (c : Dev nD) → (b : Ref sig .tc) → Buf (Elt Ideal) ((c : Thread nD τ).loc b)) (c : Dev nD)

/-- The row of the array at a row of a row block. -/
def rowAt (t : Fin 32) (r : Fin 1024) : Fin 32768 := ⟨1024 * t.val + r.val, by omega⟩

/-- The row block of a point. -/
abbrev xblk (n : ℕ) (h : n < cfg0.N) : Vec Ideal S1024x2048 .f32 := iblk0 V c 0 ⟨n, h⟩

theorem index0_0 : ∀ t : Fin cfg0.N, win0_0.index t = ![t.val, 0] := by decide +kernel

/-- The row block at an index: the array's row. -/
theorem xblk_apply (t : Fin 32) (r : Fin 1024) (j : Fin 2048) :
    xblk V c t.val t.isLt (ix2 r j) = V c main_arg0 (ix2 (rowAt t r) j) := by
  unfold xblk iblk0
  rw [View.read_apply]
  refine congrArg (V c main_arg0) (funext fun a => Fin.ext ?_)
  have hi := index0_0 ⟨t.val, t.isLt⟩
  match a with
  | ⟨0, _⟩ =>
    show win0_0.index ⟨t.val, t.isLt⟩ 0 * 1024 + 1 * r.val = 1024 * t.val + r.val
    rw [hi]; show t.val * 1024 + 1 * r.val = _; omega
  | ⟨1, _⟩ =>
    show win0_0.index ⟨t.val, t.isLt⟩ 1 * 2048 + 1 * j.val = j.val
    rw [hi]; show 0 * 2048 + 1 * j.val = _; omega

/-- The sums after the first point. -/
theorem sums_first (j : Fin 2048) (h : 0 < cfg0.N) :
    (outsAt0 V c 0 h).1 (ix2 0 j) = ∑ r : Fin 1024, (xblk V c 0 h (ix2 r j) : EReal) := by
  rw [congrArg Prod.fst (outsAt0_A V c ⟨0, h⟩ (Nat.zero_mod 32) (by show ¬ 0 % 32 = 31; omega))]
  dsimp only
  exact row_A _ _ _ _ _ _ _ _ _ _ _ j

/-- The sums after a middle point, from those before it. -/
theorem sums_step (j : Fin 2048) (n : ℕ) (h : n + 1 < cfg0.N) (h' : n + 1 < 31) :
    (outsAt0 V c (n + 1) h).1 (ix2 0 j)
      = (outsAt0 V c n (Nat.lt_of_succ_lt h)).1 (ix2 0 j) + ∑ r : Fin 1024, (xblk V c (n + 1) h (ix2 r j) : EReal) := by
  rw [congrArg Prod.fst (outsAt0_B V c ⟨n + 1, h⟩ (by show ¬ (n + 1) % 32 = 0; omega) (by show ¬ (n + 1) % 32 = 31; omega))]
  dsimp only
  exact row_B _ _ _ _ _ _ _ _ _ _ _ _ _ j

/-- The sums after the last point. -/
theorem sums_last (j : Fin 2048) (h : 31 < cfg0.N) :
    (outsAt0 V c 31 h).1 (ix2 0 j)
      = ((outsAt0 V c 30 (Nat.lt_of_succ_lt h)).1 (ix2 0 j) + ∑ r : Fin 1024, (xblk V c 31 h (ix2 r j) : EReal)) * ((1 / 32768 : ℝ) : EReal) := by
  rw [congrArg Prod.fst (outsAt0_C V c ⟨31, h⟩ (by show ¬ 31 % 32 = 0; omega) (by show 31 % 32 = 31; omega))]
  dsimp only
  exact row_C _ _ _ _ _ _ _ _ _ _ _ _ _ j

/-- The gram matrix after the first point. -/
theorem gram_first (k l : Fin 2048) (h : 0 < cfg0.N) :
    (outsAt0 V c 0 h).2 (ix2 k l) = if blk k ≤ blk l then colDot (xblk V c 0 h) k l else (0 : EReal) := by
  rw [congrArg Prod.snd (outsAt0_A V c ⟨0, h⟩ (Nat.zero_mod 32) (by show ¬ 0 % 32 = 31; omega))]
  dsimp only
  exact gram_A _ _ _ _ _ _ _ _ _ _ _ k l

/-- The gram matrix after a middle point, from the one before it. -/
theorem gram_step (k l : Fin 2048) (n : ℕ) (h : n + 1 < cfg0.N) (h' : n + 1 < 31) :
    (outsAt0 V c (n + 1) h).2 (ix2 k l)
      = if blk k ≤ blk l then (outsAt0 V c n (Nat.lt_of_succ_lt h)).2 (ix2 k l) + colDot (xblk V c (n + 1) h) k l
        else ((outsAt0 V c n (Nat.lt_of_succ_lt h)).2 (ix2 k l) : EReal) := by
  rw [congrArg Prod.snd (outsAt0_B V c ⟨n + 1, h⟩ (by show ¬ (n + 1) % 32 = 0; omega) (by show ¬ (n + 1) % 32 = 31; omega))]
  dsimp only
  exact gram_B _ _ _ _ _ _ _ _ _ _ _ _ _ k l

/-- The gram matrix after the last point. -/
theorem gram_last (k l : Fin 2048) (h : 31 < cfg0.N) :
    (outsAt0 V c 31 h).2 (ix2 k l)
      = if blk k = blk l then ((outsAt0 V c 30 (Nat.lt_of_succ_lt h)).2 (ix2 k l) + colDot (xblk V c 31 h) k l) * ((1 / 2 : ℝ) : EReal)
        else if blk k ≤ blk l then (outsAt0 V c 30 (Nat.lt_of_succ_lt h)).2 (ix2 k l) + colDot (xblk V c 31 h) k l
        else ((outsAt0 V c 30 (Nat.lt_of_succ_lt h)).2 (ix2 k l) : EReal) := by
  rw [congrArg Prod.snd (outsAt0_C V c ⟨31, h⟩ (by show ¬ 31 % 32 = 0; omega) (by show 31 % 32 = 31; omega))]
  dsimp only
  exact gram_C _ _ _ _ _ _ _ _ _ _ _ _ _ k l

/-- A value that starts at a point's term and adds a term per point is the sum of the terms. -/
theorem running_sum (N : ℕ) (f : (n : ℕ) → n < N → EReal) (g : (n : ℕ) → n < N → EReal) (B : ℕ)
    (h0 : ∀ h, f 0 h = g 0 h) (hs : ∀ n h, n + 1 < B → f (n + 1) h = f n (Nat.lt_of_succ_lt h) + g (n + 1) h) :
    ∀ (n : ℕ) (h : n < N), n < B → f n h = ∑ u : Fin (n + 1), g u.val (lt_of_le_of_lt (Nat.lt_succ_iff.mp u.isLt) h)
  | 0, h, _ => by rw [Fin.sum_univ_one]; exact h0 h
  | n + 1, h, hB => by
    rw [hs n h hB, running_sum N f g B h0 hs n (Nat.lt_of_succ_lt h) (Nat.lt_of_succ_lt hB), Fin.sum_univ_castSucc (n := n + 1)]
    rfl

/-- The running column sums before the last point. -/
theorem sums_before (j : Fin 2048) : (outsAt0 V c 30 (by decide)).1 (ix2 0 j)
      = ∑ u : Fin 31, ∑ r : Fin 1024, (xblk V c u.val (lt_trans u.isLt (by decide)) (ix2 r j) : EReal) :=
  running_sum cfg0.N (fun n h => (outsAt0 V c n h).1 (ix2 0 j)) (fun n h => ∑ r : Fin 1024, (xblk V c n h (ix2 r j) : EReal)) 31
    (sums_first V c j) (sums_step V c j) 30 _ (by decide)

/-- The running gram matrix before the last point, on and above the diagonal blocks. -/
theorem gram_before (k l : Fin 2048) (e : blk k ≤ blk l) : (outsAt0 V c 30 (by decide)).2 (ix2 k l)
      = ∑ u : Fin 31, colDot (xblk V c u.val (lt_trans u.isLt (by decide))) k l :=
  running_sum cfg0.N (fun n h => (outsAt0 V c n h).2 (ix2 k l)) (fun n h => colDot (xblk V c n h) k l) 31
    (fun h => (gram_first V c k l h).trans (if_pos e)) (fun n h h' => (gram_step V c k l n h h').trans (if_pos e)) 30 _ (by decide)

/-- Below the diagonal blocks the gram matrix stays zero. -/
theorem gram_below (k l : Fin 2048) (e : ¬ blk k ≤ blk l) : ∀ (n : ℕ) (h : n < cfg0.N), n < 31 → (outsAt0 V c n h).2 (ix2 k l) = (0 : EReal)
  | 0, h, _ => (gram_first V c k l h).trans (if_neg e)
  | n + 1, h, h' => ((gram_step V c k l n h h').trans (if_neg e)).trans (gram_below k l e n (Nat.lt_of_succ_lt h) (Nat.lt_of_succ_lt h'))

/-- The last point of the grid. -/
abbrev last0 : Fin cfg0.N := ⟨31, by decide⟩

theorem whole0_1 : (cfg0.win 1).WholeAt last0 := by decide +kernel
theorem whole0_2 : (cfg0.win 2).WholeAt last0 := by decide +kernel

/-- The sum over all rows of the array, of one column. -/
def colSum (X : Fin 32768 → Fin 2048 → EReal) (j : Fin 2048) : EReal := ∑ n : Fin 32768, X n j
/-- The sum over all rows of the products of two columns. -/
def colProd (X : Fin 32768 → Fin 2048 → EReal) (k l : Fin 2048) : EReal := ∑ n : Fin 32768, X n k * X n l

/-- A sum over the rows, split into the row blocks. -/
theorem sum_rows (f : Fin 32768 → EReal) : ∑ n, f n = ∑ t : Fin 32, ∑ r : Fin 1024, f (rowAt t r) := by
  rw [← Fintype.sum_prod_type' (f := fun t r => f (rowAt t r))]
  refine (Fintype.sum_equiv (finProdFinEquiv (m := 32) (n := 1024)) (fun p => f (rowAt p.1 p.2)) f fun p => ?_).symm
  refine congrArg f (Fin.ext ?_)
  show 1024 * p.1.val + p.2.val = p.2.val + 1024 * p.1.val
  omega

/-- The array of rows the region reads, as a function of row and column. -/
def rowsOf (V : (c : Dev nD) → (b : Ref sig .tc) → Buf (Elt Ideal) ((c : Thread nD τ).loc b)) (c : Dev nD) :
    Fin 32768 → Fin 2048 → EReal := fun n j => V c main_arg0 (ix2 n j)

/-- The means' array after the region. -/
theorem mean_array (j : Fin 2048) :
    (dat0 V c).arrAt 1 cfg0.N (ix2 0 j : S1x2048.Idx) = colSum (rowsOf V c) j * ((1 / 32768 : ℝ) : EReal) := by
  refine ((dat0 V c).arrAt_emb_eq_after_last 1 last0 whole0_1 (ix2 0 j : S1x2048.Idx)).trans ?_
  show (dat0 V c).after 1 last0 (ix2 0 j : S1x2048.Idx) = _
  rw [after0_1]
  refine (sums_last V c j _).trans ?_
  rw [show colSum (rowsOf V c) j = _ from sum_rows _, Fin.sum_univ_castSucc (n := 31)]
  refine congrArg (fun z : EReal => z * ((1 / 32768 : ℝ) : EReal)) (congrArg₂ (fun y z : EReal => y + z) ((sums_before V c j).trans ?_) ?_)
  · exact Finset.sum_congr rfl fun u _ => Finset.sum_congr rfl fun r _ => xblk_apply V c (Fin.castSucc u) r j
  · exact Finset.sum_congr rfl fun r _ => xblk_apply V c (Fin.last 31) r j

/-- The gram matrix's array after the region. -/
theorem gram_array (k l : Fin 2048) :
    (dat0 V c).arrAt 2 cfg0.N (ix2 k l : S2048x2048.Idx)
      = if blk k = blk l then colProd (rowsOf V c) k l * ((1 / 2 : ℝ) : EReal)
        else if blk k ≤ blk l then colProd (rowsOf V c) k l else 0 := by
  refine ((dat0 V c).arrAt_emb_eq_after_last 2 last0 whole0_2 (ix2 k l : S2048x2048.Idx)).trans ?_
  show (dat0 V c).after 2 last0 (ix2 k l : S2048x2048.Idx) = _
  rw [after0_2]
  refine (gram_last V c k l _).trans ?_
  have hx : ∀ t : Fin 32, colDot (xblk V c t.val t.isLt) k l = ∑ r : Fin 1024, rowsOf V c (rowAt t r) k * rowsOf V c (rowAt t r) l :=
    fun t => Finset.sum_congr rfl fun r _ => congrArg₂ (fun y z : EReal => y * z) (xblk_apply V c t r k) (xblk_apply V c t r l)
  have hs : colProd (rowsOf V c) k l
      = (∑ u : Fin 31, colDot (xblk V c u.val (lt_trans u.isLt (by decide))) k l) + colDot (xblk V c 31 (by decide)) k l := by
    rw [show colProd (rowsOf V c) k l = _ from sum_rows _, Fin.sum_univ_castSucc (n := 31)]
    exact congrArg₂ (fun y z : EReal => y + z) (Finset.sum_congr rfl fun u _ => (hx (Fin.castSucc u)).symm) (hx (Fin.last 31)).symm
  by_cases e' : blk k ≤ blk l
  · rw [gram_before V c k l e', ← hs, if_pos e', if_pos e']
  · rw [gram_below V c k l e' 30 _ (by decide), if_neg e', if_neg e', if_neg (fun e => e' (le_of_eq e)), if_neg (fun e => e' (le_of_eq e))]

end Cert.KernelIdeal.Whole

end
-- ==== Proof.WhitenForm.lean ====
/-
  The whitening region's run in closed form: its eight unrolled slabs and four column quarters as one recursion.

  The kernel writes its result matrix by a zeroing store and then, slab by slab and column quarter by column quarter, thirty-two
  read-add-write updates. The generated run lists those stores with every slab's chain of operations cut at other places; here the
  chain is stated once, over the slab's one-hot columns `P`, its columns `gp` of the permuted gram matrix, and the means.
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

variable {F : FTy → Type} [FloatOps F]

/-- The one-hot columns of a slab: entry (i, a) is 1 where `i` is the `a`-th feature number of the slab, else 0. -/
def hot (r : Vec F S1x256 .i32) : FVec F S2048x256 .f32 := k1_pay13 (iota .tc S2048x256 32 [0] iota_S2048x256_d0_w32) r

/-- The 256 × 256 indicator of "same group of 64". -/
def mask : FVec F S256x256 .f32 := k1_pay10 (iota .tc S256x256 32 [1] iota_S256x256_d1_w32) k1_pay8 64#32 k1_pay9 0#32

/-- The 256 × 256 identity. -/
def eye : FVec F S256x256 .f32 :=
  k1_pay11 (iota .tc S256x256 32 [0] iota_S256x256_d0_w32) (iota .tc S256x256 32 [1] iota_S256x256_d1_w32)

/-- The product of two 256 × 256 matrices. -/
def mm (a b : FVec F S256x256 .f32) : FVec F S256x256 .f32 :=
  matmul dot_S256x256_S256x256_S256x256_1_0_0_1_n_n none a b (constant S256x256 .f32 0x00000000#32)

/-- The middle factor of a Newton–Schulz step: 1.5 I − 0.5 Z Y. -/
def nsT (y z : FVec F S256x256 .f32) : FVec F S256x256 .f32 :=
  subf (mulf (broadcast S256x256 (Scalar.ofBits .f32 0x3FC00000#32)) eye)
    (mulf (broadcast S256x256 (Scalar.ofBits .f32 0x3F000000#32)) (mm z y))

/-- The pair (Y, Z) after `n` Newton–Schulz steps from (a, I). -/
def ns (a : FVec F S256x256 .f32) : ℕ → FVec F S256x256 .f32 × FVec F S256x256 .f32
  | 0 => (a, eye)
  | n + 1 => (mm (ns a n).1 (nsT (ns a n).1 (ns a n).2), mm (nsT (ns a n).1 (ns a n).2) (ns a n).2)

/-- A slab's covariance: its symmetrised gram matrix less the means' product, masked to the groups and divided by 32. -/
def cov (P : FVec F S2048x256 .f32) (gp : Vec F S2048x256 .f32) (mu : Vec F S1x2048 .f32) : FVec F S256x256 .f32 :=
  let gu := matmul dot_S2048x256_S2048x256_S256x256_0_0_1_1_n_n none P gp (constant S256x256 .f32 0x00000000#32)
  let ms := matmul dot_S1x2048_S2048x256_S1x256_1_0_0_1_n_n none (shapeCast S1x2048 mu shapeCasts_S1x2048_S1x2048) P
    (constant S1x256 .f32 0x00000000#32)
  k1_pay16 mask (addf gu (transpose S256x256 [1, 0] gu transposes_S256x256_p1_0_S256x256)) ms

/-- A slab's scale: the greatest row sum of absolute values, at least 1e-30. -/
def scale (C : FVec F S256x256 .f32) : F .f32 :=
  Scalar.maximumf (extractAt ![0, 0, 0] (shapeCast S1x1x1 (multiReduction .maximumf [1, 2] S1
    (shapeCast S1x256x1 (shapeCast S256x1 (multiReduction .add [1] S256 (absf C) 0x00000000#32 reduces_S256x256_S256 (.inl rfl) rfl)
      shapeCasts_S256_S256x1) shapeCasts_S256x1_S1x256x1) 0xFF800000#32 reduces_S1x256x1_S1 (.inl rfl) rfl)
    shapeCasts_S1_S1x1x1) inpos_S1x1x1_p0_0_0) (Scalar.ofBits .f32 0x0DA24260#32)

/-- A slab's inverse root: ten steps on the scaled covariance, times the scale's reciprocal square root. -/
def root (C : FVec F S256x256 .f32) : FVec F S256x256 .f32 :=
  mulf (ns (mulf C (broadcast S256x256 (Scalar.divf (Scalar.ofBits .f32 0x3F800000#32) (scale C)))) 10).2
    (broadcast S256x256 (Scalar.rsqrt (scale C)))

/-- The root's rows put at the slab's features. -/
def placed (P : FVec F S2048x256 .f32) (W : FVec F S256x256 .f32) : FVec F S2048x256 .f32 :=
  matmul dot_S2048x256_S256x256_S2048x256_1_0_0_1_n_n none P W (constant S2048x256 .f32 0x00000000#32)

/-- A row block of 512 of the one-hot columns lies inside them. -/
theorem slices_quarter (j : Fin 4) : S2048x256.Slices ![512 * j.val, 0] S512x256 := by revert j; decide

/-- One update of a column quarter: the quarter's old contents plus the placed root times the quarter's rows of the one-hot columns. -/
def addQuarter (j : Fin 4) (P PW : FVec F S2048x256 .f32) (old : Vec F S2048x512 .f32) : FVec F S2048x512 .f32 :=
  addf (shapeCast S2048x512 old shapeCasts_S2048x512_S2048x512)
    (matmul dot_S2048x256_S512x256_S2048x512_1_1_0_0_n_n none PW (extractStridedSlice S512x256 ![512 * j.val, 0] P (slices_quarter j))
      (constant S2048x512 .f32 0x00000000#32))

/-- Quarter `j` of a 2048 × 2048 array's columns. -/
def rectQuarter (j : Fin 4) : Rect S2048x2048 :=
  Rect.unit ![0, 512 * j.val] S2048x512.size (by revert j; decide)

/-- Slab `s` of a 2048 × 2048 array's columns. -/
def rectSlab (s : Fin 8) : Rect S2048x2048 :=
  Rect.unit ![0, 256 * s.val] S2048x256.size (by revert s; decide)

/-- Slab `s` of the feature numbers' row. -/
def rectIdx (s : Fin 8) : Rect S1x2048 :=
  Rect.unit ![0, 256 * s.val] S1x256.size (by revert s; decide)

/-- Quarter `j` of the feature numbers' row. -/
def rectIdxQ (j : Fin 4) : Rect S1x2048 :=
  Rect.unit ![0, 512 * j.val] S1x512.size (by revert j; decide)

/-- The stores that fill the permuted gram matrix, a column quarter each, the last first: `q j` are the feature numbers of quarter `j`. -/
def gpPieces (g : Vec F S2048x2048 .f32) (q : Fin 4 → Vec F S1x512 .i32) : List (View.Piece (Elt F) S2048x2048 .f32) :=
  [⟨rectQuarter 3, k1_pay3 (q 3) g⟩, ⟨rectQuarter 2, k1_pay3 (q 2) g⟩, ⟨rectQuarter 1, k1_pay3 (q 1) g⟩, ⟨rectQuarter 0, k1_pay3 (q 0) g⟩]

/-- The result's stores after the zeroing and the first `k` updates, the last first: update `k` is quarter `k % 4` of slab `k / 4`,
    `P s` being the slab's one-hot columns, `PW s` its placed root and `rd` the read of a quarter of what the earlier stores left. -/
def mPieces (rd : List (View.Piece (Elt F) S2048x2048 .f32) → Fin 4 → Vec F S2048x512 .f32) (P PW : Fin 8 → FVec F S2048x256 .f32) :
    ℕ → List (View.Piece (Elt F) S2048x2048 .f32)
  | 0 => [⟨Rect.unit ![0, 0] S2048x2048.size inb_S2048x2048_S2048x2048_0_0, broadcast S2048x2048 (Scalar.ofBits .f32 0x00000000#32)⟩]
  | k + 1 =>
    ⟨rectQuarter ⟨k % 4, Nat.mod_lt _ (by decide)⟩,
      addQuarter ⟨k % 4, Nat.mod_lt _ (by decide)⟩ (P ⟨k / 4 % 8, Nat.mod_lt _ (by decide)⟩) (PW ⟨k / 4 % 8, Nat.mod_lt _ (by decide)⟩)
        (rd (mPieces rd P PW k) ⟨k % 4, Nat.mod_lt _ (by decide)⟩)⟩ :: mPieces rd P PW k

/-- The region's stores into its result are `mPieces` at 32 updates, over the reads as the run makes them. -/
theorem run_pieces (c : Dev nD) (i : grid1.Coords) (arg1 : Memref sig .tc .vmem S2048x2048 .f32) (harg1 : arg1.IsWhole)
    (arg2 : Memref sig .tc .vmem S1x2048 .i32) (harg2 : arg2.IsWhole) (arg3 : Memref sig .tc .vmem S1x2048 .f32) (harg3 : arg3.IsWhole)
    (arg4 : Memref sig .tc .vmem S2048x2048 .f32) (harg4 : arg4.IsWhole) (arg5 : Memref sig .tc .vmem S2048x2048 .f32)
    (harg5 : arg5.IsWhole) (x0 : Vec F S2048x2048 .f32) (x1 : Vec F S1x2048 .i32) (x2 : Vec F S1x2048 .f32) :
    (kernelRun1_A c i arg1 harg1 arg2 harg2 arg3 harg3 arg4 harg4 arg5 harg5 x0 x1 x2).1
      = mPieces (fun L j => arg4.view.readCov L (rectQuarter j).toLoadRect)
          (fun s => hot (View.readAt (Elt F) arg2.view (rectIdx s).toLoadRect (harg2.unread x1)))
          (fun s => placed (hot (View.readAt (Elt F) arg2.view (rectIdx s).toLoadRect (harg2.unread x1)))
            (root (cov (hot (View.readAt (Elt F) arg2.view (rectIdx s).toLoadRect (harg2.unread x1)))
              (arg5.view.readCov (gpPieces (View.readAt (Elt F) arg1.view (Rect.unit ![0, 0] S2048x2048.size inb_S2048x2048_S2048x2048_0_0).toLoadRect (harg1.unread x0))
                (fun j => View.readAt (Elt F) arg2.view (rectIdxQ j).toLoadRect (harg2.unread x1))) (rectSlab s).toLoadRect)
              (View.readAt (Elt F) arg3.view (Rect.unit ![0, 0] S1x2048.size inb_S1x2048_S1x2048_0_0).toLoadRect (harg3.unread x2))))) 32 := by
  sl_kernel_rfl

end Cert.KernelIdeal.Whole

end
-- ==== Proof.Maths.lean ====
/-
  The mathematics both programs compute, over the extended reals, as plain functions of row and column: matrix product, identity, the
  Newton–Schulz steps, the scale of a matrix.
-/
module

public import Idealize.ShloMosaic.Lib.Pointwise
public import Idealize.ShloMosaic.Lib.IdealHost

@[expose] public section

noncomputable section

namespace Cert.Whiten

open Idealize.ShloMosaic

variable {ι : Type} [Fintype ι] [DecidableEq ι]

/-- The product of two square matrices. -/
def mmul (a b : ι → ι → EReal) : ι → ι → EReal := fun i j => ∑ k, a i k * b k j

/-- The identity matrix. -/
def one : ι → ι → EReal := fun i j => if i = j then 1 else 0

/-- The middle factor of a Newton–Schulz step: 1.5 I − 0.5 Z Y. -/
def stepT (y z : ι → ι → EReal) : ι → ι → EReal :=
  fun i j => ((3 / 2 : ℝ) : EReal) * one i j - ((1 / 2 : ℝ) : EReal) * mmul z y i j

/-- The pair (Y, Z) after `n` Newton–Schulz steps from (a, I). -/
def steps (a : ι → ι → EReal) : ℕ → (ι → ι → EReal) × (ι → ι → EReal)
  | 0 => (a, one)
  | n + 1 => (mmul (steps a n).1 (stepT (steps a n).1 (steps a n).2), mmul (stepT (steps a n).1 (steps a n).2) (steps a n).2)

/-- A row's sum of absolute values. -/
def rowAbs (c : ι → ι → EReal) (i : ι) : EReal := ∑ j, max (c i j) (-c i j)

/-- The least scale, about 1e-30. -/
def least : EReal := Ideal.ofBits .f32 0x0DA24260#32

/-- The least scale is positive. -/
theorem least_pos : 0 < least := by
  unfold least
  simp [Ideal.ofBits, Ideal.ieee, -EReal.coe_mul]
  try norm_num

/-- The scale of a matrix: the greatest row sum, at least the least scale. -/
def scaleOf (c : ι → ι → EReal) : EReal := max (Finset.univ.sup (rowAbs c)) least

/-- A scale is positive. -/
theorem scaleOf_pos (c : ι → ι → EReal) : 0 < scaleOf c := lt_of_lt_of_le least_pos (le_max_right _ _)

/-- The bits of three halves. -/
theorem three_halves_bits : Ideal.ofBits .f32 0x3FC00000#32 = ((3 / 2 : ℝ) : EReal) := by
  simp [Ideal.ofBits, Ideal.ieee, -EReal.coe_mul]; norm_num

/-- The bits of 32768. -/
theorem rows_bits : Ideal.ofBits .f32 0x47000000#32 = ((32768 : ℝ) : EReal) := by
  simp [Ideal.ofBits, Ideal.ieee, -EReal.coe_mul]; norm_num

/-- The bits of 1/32. -/
theorem inv_groups_bits : Ideal.ofBits .f32 0x3D000000#32 = ((1 / 32 : ℝ) : EReal) := by
  simp [Ideal.ofBits, Ideal.ieee, -EReal.coe_mul]; norm_num

/-- The bits of minus infinity. -/
theorem neg_inf_bits : Ideal.ofBits .f32 0xFF800000#32 = (⊥ : EReal) := by
  simp [Ideal.ofBits, Ideal.ieee]

/-- A word-sized truth value as a number. -/
theorem truth_apply (p : Prop) [Decidable p] (b : BitVec 1) (h : b = if p then 1#1 else 0#1) :
    (FloatOps.sitofp .f32 (BitVec.setWidth 32 b) : Ideal .f32) = if p then (1 : EReal) else 0 := by
  subst h
  by_cases hp : p
  · rw [if_pos hp, if_pos hp]
    show (((BitVec.setWidth 32 (1#1)).toInt : ℝ) : EReal) = 1
    rw [show (BitVec.setWidth 32 (1#1)).toInt = 1 from by decide]; simp
  · rw [if_neg hp, if_neg hp]
    show (((BitVec.setWidth 32 (0#1)).toInt : ℝ) : EReal) = 0
    rw [show (BitVec.setWidth 32 (0#1)).toInt = 0 from by decide]; simp

end Cert.Whiten

end
-- ==== Proof.WhitenReads.lean ====
/-
  The whitening region's operations at an index, over the extended reals.
-/
module

public import proofs.«01_k».proof.Proof.WhitenForm
public import proofs.«01_k».proof.Proof.BlockReads
public import proofs.«01_k».proof.Proof.Maths

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

open Cert.Whiten (mmul one stepT steps rowAbs scaleOf least truth_apply)

/-- The comparison of two words as a truth value. -/
theorem cmpi_eq_ite {w : ℕ} (x y : BitVec w) : IntOp.cmpi .eq x y = if x = y then 1#1 else 0#1 := by
  show BitVec.ofBool (x == y) = _
  by_cases h : x = y
  · rw [if_pos h, h, beq_self_eq_true]; rfl
  · rw [if_neg h, beq_eq_false_iff_ne.mpr h]; rfl

/-- The one-hot columns at an index. -/
theorem hot_apply (r : Vec Ideal S1x256 .i32) (i : Fin 2048) (a : Fin 256) :
    hot (F := Ideal) r (ix2 i a) = if BitVec.ofNat 32 i.val = r (ix2 0 a) then (1 : EReal) else 0 := by
  pointwise [hot, k1_pay13]
  exact truth_apply _ _ (cmpi_eq_ite _ _)

/-- A column quarter of the permuted gram matrix at an index: the gram row against the one-hot column. -/
theorem quarter_apply (r : Vec Ideal S1x512 .i32) (g : Vec Ideal S2048x2048 .f32) (i : Fin 2048) (a : Fin 512) :
    k1_pay3 (F := Ideal) r g (ix2 i a) = ∑ k : Fin 2048, (g (ix2 i k) : EReal) * if BitVec.ofNat 32 k.val = r (ix2 0 a) then (1 : EReal) else 0 := by
  pointwise [k1_pay3]
  exact Finset.sum_congr rfl fun k _ => congrArg _ (truth_apply _ _ (cmpi_eq_ite _ _))

/-- The group number of a column as the region computes it: the quotient by 64 rounded toward minus infinity. -/
def groupWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- It is the quotient. -/
theorem groupWord_eq : ∀ a : Fin 256, groupWord (BitVec.ofNat 32 a.val) = BitVec.ofNat 32 (a.val / 64) := by decide +kernel

/-- Two columns' group numbers are equal words exactly when they are equal. -/
theorem group_iff (a b : Fin 256) : BitVec.ofNat 32 (a.val / 64) = BitVec.ofNat 32 (b.val / 64) ↔ a.val / 64 = b.val / 64 := by
  refine ⟨fun h => ?_, fun h => by rw [h]⟩
  have := congrArg BitVec.toNat h
  simp only [BitVec.toNat_ofNat] at this
  omega

/-- The group indicator at an index. -/
theorem mask_apply (a b : Fin 256) :
    mask (F := Ideal) (ix2 a b) = if a.val / 64 = b.val / 64 then (1 : EReal) else 0 := by
  pointwise [mask, k1_pay10, k1_pay8, k1_pay9]
  refine truth_apply _ _ ((cmpi_eq_ite _ _).trans (if_congr ?_ rfl rfl))
  rw [← group_iff, ← groupWord_eq, ← groupWord_eq]
  exact Iff.rfl

/-- The identity at an index. -/
theorem eye_apply (a b : Fin 256) : eye (F := Ideal) (ix2 a b) = one a b := by
  pointwise [eye, k1_pay11]
  refine truth_apply _ _ ((cmpi_eq_ite _ _).trans (if_congr ?_ rfl rfl))
  refine ⟨fun h => Fin.ext ?_, fun h => by rw [h]⟩
  have := congrArg BitVec.toNat h
  simp only [BitVec.toNat_ofNat] at this
  omega

/-- A 256 × 256 array as a function of row and column. -/
def entries (x : FVec Ideal S256x256 .f32) : Fin 256 → Fin 256 → EReal := fun a b => x (ix2 a b)

/-- The product at an index. -/
theorem mm_apply (x y : FVec Ideal S256x256 .f32) (a b : Fin 256) :
    mm (F := Ideal) x y (ix2 a b) = mmul (entries x) (entries y) a b := by
  pointwise [mm]
  rfl

/-- The steps' middle factor at an index. -/
theorem nsT_apply (y z : FVec Ideal S256x256 .f32) (a b : Fin 256) :
    nsT (F := Ideal) y z (ix2 a b) = stepT (entries y) (entries z) a b := by
  pointwise [nsT]
  rw [eye_apply, mm_apply, half_bits, Cert.Whiten.three_halves_bits]
  rfl

/-- The steps are the steps of the entries. -/
theorem ns_entries (x : FVec Ideal S256x256 .f32) : ∀ n, entries (ns x n).1 = (steps (entries x) n).1 ∧ entries (ns x n).2 = (steps (entries x) n).2
  | 0 => ⟨rfl, funext fun a => funext fun b => eye_apply a b⟩
  | n + 1 => by
    obtain ⟨h1, h2⟩ := ns_entries x n
    have hT : entries (nsT (ns x n).1 (ns x n).2) = stepT (steps (entries x) n).1 (steps (entries x) n).2 :=
      funext fun a => funext fun b => (nsT_apply _ _ a b).trans (by rw [h1, h2])
    exact ⟨funext fun a => funext fun b => (mm_apply _ _ a b).trans (by rw [h1, hT]; rfl),
      funext fun a => funext fun b => (mm_apply _ _ a b).trans (by rw [h2, hT]; rfl)⟩

/-- A slab's covariance at an index. -/
theorem cov_apply (P : FVec Ideal S2048x256 .f32) (gp : Vec Ideal S2048x256 .f32) (mu : Vec Ideal S1x2048 .f32) (a b : Fin 256) :
    cov P gp mu (ix2 a b)
      = ((∑ x : Fin 2048, (P (ix2 x a) : EReal) * gp (ix2 x b)) + (∑ x : Fin 2048, (P (ix2 x b) : EReal) * gp (ix2 x a))
          - ((32768 : ℝ) : EReal) * ((∑ x : Fin 2048, (mu (ix2 0 x) : EReal) * P (ix2 x a)) * ∑ x : Fin 2048, (mu (ix2 0 x) : EReal) * P (ix2 x b)))
        * (if a.val / 64 = b.val / 64 then 1 else 0) * ((1 / 32 : ℝ) : EReal) := by
  pointwise [cov, k1_pay16]
  rw [mask_apply, Cert.Whiten.rows_bits, Cert.Whiten.inv_groups_bits, Fin.sum_univ_one]

/-- The placed root at an index. -/
theorem placed_apply (P : FVec Ideal S2048x256 .f32) (W : FVec Ideal S256x256 .f32) (i : Fin 2048) (a : Fin 256) :
    placed P W (ix2 i a) = ∑ k : Fin 256, (P (ix2 i k) : EReal) * W (ix2 k a) := by
  pointwise [placed]

/-- A quarter's update at an index. -/
theorem addQuarter_apply (j : Fin 4) (P PW : FVec Ideal S2048x256 .f32) (old : Vec Ideal S2048x512 .f32) (i : Fin 2048) (b : Fin 512) :
    addQuarter j P PW old (ix2 i b) = old (ix2 i b) + ∑ k : Fin 256, (PW (ix2 i k) : EReal) * P (ix2 ⟨512 * j.val + b.val, by omega⟩ k) := by
  pointwise [addQuarter]

/-- A slab's scale. -/
theorem scale_eq (C : FVec Ideal S256x256 .f32) : scale C = scaleOf (entries C) := by
  pointwise [scale]
  rw [Cert.Whiten.neg_inf_bits]
  refine congrArg (max · least) ?_
  refine le_antisymm (Finset.sup_le fun x _ => ?_) (Finset.sup_le fun a _ => ?_)
  · exact Finset.le_sup (f := rowAbs (entries C)) (Finset.mem_univ x.1)
  · exact Finset.le_sup (f := fun x : Fin 256 × Fin 1 => rowAbs (entries C) x.1) (Finset.mem_univ (a, 0))

/-- A slab's inverse root at an index. -/
theorem root_apply (C : FVec Ideal S256x256 .f32) (a b : Fin 256) :
    root C (ix2 a b)
      = (steps (fun i j => entries C i j * Ideal.div 1 (scaleOf (entries C))) 10).2 a b * Ideal.rsqrt (scaleOf (entries C)) := by
  pointwise [root]
  rw [← scale_eq]
  refine congrArg₂ (fun y z : EReal => y * z) ?_ rfl
  exact congrFun (congrFun (ns_entries _ 10).2 a) b

end Cert.KernelIdeal.Whole

end
-- ==== Proof.WhitenValue.lean ====
/-
  What the whitening region leaves in its array, over the extended reals, as a function of the gram matrix, the feature numbers and the
  means: the sum over the slabs of the one-hot columns, the slab's root and the one-hot columns again.
-/
module

public import proofs.«01_k».proof.Proof.WhitenReads
public import Idealize.ShloMosaic.Lib.Pipeline.ValueKit

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen
open Cert.Whiten (mmul one stepT steps rowAbs scaleOf least)

section Spec

variable (g : Fin 2048 → Fin 2048 → EReal) (idx : Fin 2048 → BitVec 32) (mu : Fin 2048 → EReal)

/-- Entry (i, j) of the one-hot matrix: 1 where feature number `j` is `i`. -/
def hotF (i j : Fin 2048) : EReal := if BitVec.ofNat 32 i.val = idx j then 1 else 0

/-- The gram matrix with its columns permuted. -/
def gpF (i j : Fin 2048) : EReal := ∑ k, g i k * hotF idx k j

/-- The covariance of slab `s`. -/
def covF (s : Fin 8) (a b : Fin 256) : EReal :=
  ((∑ x, hotF idx x (col s a) * gpF g idx x (col s b)) + (∑ x, hotF idx x (col s b) * gpF g idx x (col s a))
      - ((32768 : ℝ) : EReal) * ((∑ x, mu x * hotF idx x (col s a)) * ∑ x, mu x * hotF idx x (col s b)))
    * (if a.val / 64 = b.val / 64 then 1 else 0) * ((1 / 32 : ℝ) : EReal)

/-- The inverse root of slab `s`. -/
def rootF (s : Fin 8) (a b : Fin 256) : EReal :=
  (steps (fun i j => covF g idx mu s i j * Ideal.div 1 (scaleOf (covF g idx mu s))) 10).2 a b * Ideal.rsqrt (scaleOf (covF g idx mu s))

/-- The term of slab `s` in the whitening matrix. -/
def slabF (s : Fin 8) (i j : Fin 2048) : EReal :=
  ∑ b : Fin 256, (∑ a : Fin 256, hotF idx i (col s a) * rootF g idx mu s a b) * hotF idx j (col s b)

/-- The whitening matrix. -/
def whiteF (i j : Fin 2048) : EReal := ∑ s : Fin 8, slabF g idx mu s i j

end Spec

/-- The column quarter a column lies in. -/
def qtr (j : Fin 2048) : Fin 4 := ⟨j.val / 512, by omega⟩
/-- Its place in the quarter. -/
def qlo (j : Fin 2048) : Fin 512 := ⟨j.val % 512, by omega⟩
/-- The column at a place of a quarter. -/
def qcol (q : Fin 4) (b : Fin 512) : Fin 2048 := ⟨512 * q.val + b.val, by omega⟩
theorem qcol_qtr (j : Fin 2048) : qcol (qtr j) (qlo j) = j := Fin.ext (by simp only [qcol, qtr, qlo]; omega)

section Quarters

variable {sig' : RefSig} {κ : Kind} {sp : Space} (v : View sig' κ sp S2048x2048 .f32) (f : v.ty.Contents (Elt Ideal))

/-- A quarter's store read inside the quarter. -/
theorem read_quarter_of_mem (p : Fin 4) (w : (rectQuarter p).shape.Idx → Elt Ideal .f32)
    (L : List (View.Piece (Elt Ideal) S2048x2048 .f32)) (i j : Fin 2048) (h : qtr j = p) :
    v.read (Elt Ideal) (v.writes (Elt Ideal) f (⟨rectQuarter p, w⟩ :: L)) (ix2 i j) = w (ix2 i (qlo j)) := by
  subst h
  refine View.read_writes_cons_unit_of_mem v f _ w L (ix2 i j) (ix2 i (qlo j)) rfl fun a => ?_
  match a with
  | ⟨0, _⟩ => exact (Nat.zero_add _).symm
  | ⟨1, _⟩ => exact (congrArg Fin.val (qcol_qtr j)).symm

/-- A quarter's store read outside it. -/
theorem read_quarter_of_not_mem (p : Fin 4) (w : (rectQuarter p).shape.Idx → Elt Ideal .f32)
    (L : List (View.Piece (Elt Ideal) S2048x2048 .f32)) (i j : Fin 2048) (h : qtr j ≠ p) :
    v.read (Elt Ideal) (v.writes (Elt Ideal) f (⟨rectQuarter p, w⟩ :: L)) (ix2 i j)
      = v.read (Elt Ideal) (v.writes (Elt Ideal) f L) (ix2 i j) := by
  refine View.read_writes_cons_unit_of_not_mem v f _ w L (ix2 i j) rfl (1 : Fin 2) ?_
  have h2 : j.val / 512 ≠ p.val := fun e => h (Fin.ext e)
  show j.val < 512 * p.val ∨ 512 * p.val + 512 ≤ j.val
  omega

/-- The zeroing store reads zero. -/
theorem zeroPiece_read (i j : Fin 2048) :
    v.read (Elt Ideal) (v.writes (Elt Ideal) f
      [⟨Rect.unit ![0, 0] S2048x2048.size inb_S2048x2048_S2048x2048_0_0, broadcast S2048x2048 (Scalar.ofBits (F := Ideal) .f32 0x00000000#32)⟩]) (ix2 i j) = (0 : EReal) := by
  refine (View.read_writes_cons_unit_of_mem v f _ _ [] (ix2 i j) (ix2 i j) (off' := ![0, 0]) rfl fun a => ?_).trans ?_
  · match a with
    | ⟨0, _⟩ => exact (Nat.zero_add _).symm
    | ⟨1, _⟩ => exact (Nat.zero_add _).symm
  · show Ideal.ofBits .f32 0x00000000#32 = 0
    simp [Ideal.ofBits, Ideal.ieee]

/-- A store per quarter, each holding its part of `G`, reads `G`. -/
theorem read_quarters (w : Fin 4 → Vec Ideal S2048x512 .f32) (G : Fin 2048 → Fin 2048 → EReal)
    (hw : ∀ p i b, w p (ix2 i b) = G i (qcol p b)) (i j : Fin 2048) : ∀ qs : List (Fin 4), qtr j ∈ qs →
      v.read (Elt Ideal) (v.writes (Elt Ideal) f (qs.map fun p => (⟨rectQuarter p, w p⟩ : View.Piece (Elt Ideal) S2048x2048 .f32))) (ix2 i j) = G i j
  | p :: qs, h => by
    by_cases e : qtr j = p
    · refine (read_quarter_of_mem v f p (w p) _ i j e).trans ((hw p i (qlo j)).trans ?_)
      rw [← e, qcol_qtr]
    · refine (read_quarter_of_not_mem v f p (w p) _ i j e).trans (read_quarters w G hw i j qs ?_)
      exact (List.mem_cons.mp h).resolve_left e

end Quarters

/-- A covering read of a quarter is a read of the stores over junk. -/
theorem readCov_quarter (v : View sig .tc .vmem S2048x2048 .f32) (L : List (View.Piece (Elt Ideal) S2048x2048 .f32)) (p : Fin 4)
    (i : Fin 2048) (b : Fin 512) :
    v.readCov L (rectQuarter p).toLoadRect (ix2 i b) = v.read (Elt Ideal) (v.writes (Elt Ideal) v.junk L) (ix2 i (qcol p b)) := by
  rw [View.readCov_eq_canon', View.read_writes_junk_eq_canon]
  refine congrArg (View.canon L) (funext fun k => Fin.ext ?_)
  match k with
  | ⟨0, _⟩ => exact (Nat.zero_add _).trans (Nat.one_mul i.val)
  | ⟨1, _⟩ => exact (congrArg (512 * p.val + ·) (Nat.one_mul b.val))

/-- A covering read of a slab's columns is a read of the stores over junk. -/
theorem readCov_slab (v : View sig .tc .vmem S2048x2048 .f32) (L : List (View.Piece (Elt Ideal) S2048x2048 .f32)) (s : Fin 8)
    (i : Fin 2048) (a : Fin 256) :
    v.readCov L (rectSlab s).toLoadRect (ix2 i a) = v.read (Elt Ideal) (v.writes (Elt Ideal) v.junk L) (ix2 i (col s a)) := by
  rw [View.readCov_eq_canon', View.read_writes_junk_eq_canon]
  refine congrArg (View.canon L) (funext fun k => Fin.ext ?_)
  match k with
  | ⟨0, _⟩ => exact (Nat.zero_add _).trans (Nat.one_mul i.val)
  | ⟨1, _⟩ => exact (congrArg (256 * s.val + ·) (Nat.one_mul a.val))

/-- A slab of the feature numbers as the body reads it. -/
theorem readAt_idx (arg2 : Memref sig .tc .vmem S1x2048 .i32) (harg2 : arg2.IsWhole) (x1 : Vec Ideal S1x2048 .i32) (s : Fin 8) (a : Fin 256) :
    View.readAt (Elt Ideal) arg2.view (rectIdx s).toLoadRect (harg2.unread x1) (ix2 0 a) = x1 (ix2 0 (col s a)) := by
  rw [View.readAt_eq_ld, harg2.read_unread]
  refine congrArg x1 (funext fun k => Fin.ext ?_)
  match k with
  | ⟨0, _⟩ => rfl
  | ⟨1, _⟩ => exact (congrArg (256 * s.val + ·) (Nat.one_mul a.val))

/-- A quarter of the feature numbers as the body reads it. -/
theorem readAt_idxQ (arg2 : Memref sig .tc .vmem S1x2048 .i32) (harg2 : arg2.IsWhole) (x1 : Vec Ideal S1x2048 .i32) (p : Fin 4) (b : Fin 512) :
    View.readAt (Elt Ideal) arg2.view (rectIdxQ p).toLoadRect (harg2.unread x1) (ix2 0 b) = x1 (ix2 0 (qcol p b)) := by
  rw [View.readAt_eq_ld, harg2.read_unread]
  refine congrArg x1 (funext fun k => Fin.ext ?_)
  match k with
  | ⟨0, _⟩ => rfl
  | ⟨1, _⟩ => exact (congrArg (512 * p.val + ·) (Nat.one_mul b.val))

/-- The result's stores after `k` updates: at an entry of quarter `q`, the terms of the slabs `s` with `4 s + q < k`. -/
theorem read_mPieces (v : View sig .tc .vmem S2048x2048 .f32) (f : v.ty.Contents (Elt Ideal)) (hf : f = v.junk)
    (P PW : Fin 8 → FVec Ideal S2048x256 .f32) (i j : Fin 2048) : ∀ k : ℕ,
    v.read (Elt Ideal) (v.writes (Elt Ideal) f (mPieces (fun L p => v.readCov L (rectQuarter p).toLoadRect) P PW k)) (ix2 i j)
      = ∑ s ∈ Finset.range ((k + 3 - (qtr j).val) / 4),
          ∑ b : Fin 256, (PW ⟨s % 8, Nat.mod_lt _ (by decide)⟩ (ix2 i b) : EReal) * P ⟨s % 8, Nat.mod_lt _ (by decide)⟩ (ix2 j b)
  | 0 => by
    rw [show (0 + 3 - (qtr j).val) / 4 = 0 from by omega, Finset.range_zero, Finset.sum_empty]
    exact zeroPiece_read v f i j
  | k + 1 => by
    have ih := read_mPieces v f hf P PW i j k
    have hq := (qtr j).isLt
    by_cases e : qtr j = ⟨k % 4, Nat.mod_lt _ (by decide)⟩
    · have ev : (qtr j).val = k % 4 := congrArg Fin.val e
      refine (read_quarter_of_mem v f _ _ _ i j e).trans ((addQuarter_apply _ _ _ _ i (qlo j)).trans ?_)
      rw [show (k + 1 + 3 - (qtr j).val) / 4 = k / 4 + 1 from by omega, Finset.sum_range_succ]
      rw [show (k + 3 - (qtr j).val) / 4 = k / 4 from by omega] at ih
      have hj : qcol ⟨k % 4, Nat.mod_lt _ (by decide)⟩ (qlo j) = j := by rw [← e, qcol_qtr]
      refine congrArg₂ (fun y z : EReal => y + z) ?_ (Finset.sum_congr rfl fun b _ => ?_)
      · refine (readCov_quarter v _ _ i (qlo j)).trans ?_
        rw [hj, ← hf]
        exact ih
      · exact congrArg (fun y : Fin 2048 => (PW _ (ix2 i b) : EReal) * P _ (ix2 y b)) hj
    · have ev : (qtr j).val ≠ k % 4 := fun h => e (Fin.ext h)
      refine (read_quarter_of_not_mem v f _ _ _ i j e).trans (ih.trans ?_)
      rw [show (k + 1 + 3 - (qtr j).val) / 4 = (k + 3 - (qtr j).val) / 4 from by omega]

variable (V : (c : Dev nD) → (b : Ref sig .tc) → Buf (Elt Ideal) ((c : Thread nD τ).loc b)) (c : Dev nD)

/-- The gram matrix the region reads. -/
def gramOf : Fin 2048 → Fin 2048 → EReal := fun i j => V c main_v0_1 (ix2 i j)
/-- The feature numbers the region reads. -/
def idxOf : Fin 2048 → BitVec 32 := fun j => V c main_v1 (ix2 0 j)
/-- The means a region reads. -/
def meanOf : Fin 2048 → EReal := fun j => V c main_v0_0 (ix2 0 j)

theorem index1_0 : ∀ t : Fin cfg1.N, win1_0.index t = ![0, 0] := by decide +kernel
theorem index1_1 : ∀ t : Fin cfg1.N, win1_1.index t = ![0, 0] := by decide +kernel
theorem index1_2 : ∀ t : Fin cfg1.N, win1_2.index t = ![0, 0] := by decide +kernel

/-- The gram matrix's block is the array. -/
theorem iblk1_gram (t : Fin cfg1.N) (i j : Fin 2048) :
    (iblk1 V c 0 t : Vec Ideal S2048x2048 .f32) (ix2 i j) = gramOf V c i j := by
  unfold iblk1 gramOf
  rw [View.read_apply]
  refine congrArg (V c main_v0_1) (funext fun a => Fin.ext ?_)
  match a with
  | ⟨0, _⟩ => show win1_0.index t 0 * 2048 + 1 * i.val = i.val; rw [index1_0]; show 0 * 2048 + 1 * i.val = _; omega
  | ⟨1, _⟩ => show win1_0.index t 1 * 2048 + 1 * j.val = j.val; rw [index1_0]; show 0 * 2048 + 1 * j.val = _; omega

/-- The feature numbers' block is the array. -/
theorem iblk1_idx (t : Fin cfg1.N) (j : Fin 2048) : (iblk1 V c 1 t : Vec Ideal S1x2048 .i32) (ix2 0 j) = idxOf V c j := by
  unfold iblk1 idxOf
  rw [View.read_apply]
  refine congrArg (V c main_v1) (funext fun a => Fin.ext ?_)
  match a with
  | ⟨0, _⟩ => show win1_1.index t 0 * 1 + 1 * 0 = 0; rw [index1_1]; rfl
  | ⟨1, _⟩ => show win1_1.index t 1 * 2048 + 1 * j.val = j.val; rw [index1_1]; show 0 * 2048 + 1 * j.val = _; omega

/-- The means' block is the array. -/
theorem iblk1_mean (t : Fin cfg1.N) (j : Fin 2048) : (iblk1 V c 2 t : Vec Ideal S1x2048 .f32) (ix2 0 j) = meanOf V c j := by
  unfold iblk1 meanOf
  rw [View.read_apply]
  refine congrArg (V c main_v0_0) (funext fun a => Fin.ext ?_)
  match a with
  | ⟨0, _⟩ => show win1_2.index t 0 * 1 + 1 * 0 = 0; rw [index1_2]; rfl
  | ⟨1, _⟩ => show win1_2.index t 1 * 2048 + 1 * j.val = j.val; rw [index1_2]; show 0 * 2048 + 1 * j.val = _; omega

section Run

variable (i0 : grid1.Coords) (arg1 : Memref sig .tc .vmem S2048x2048 .f32) (harg1 : arg1.IsWhole)
  (arg2 : Memref sig .tc .vmem S1x2048 .i32) (harg2 : arg2.IsWhole) (arg3 : Memref sig .tc .vmem S1x2048 .f32) (harg3 : arg3.IsWhole)
  (arg4 : Memref sig .tc .vmem S2048x2048 .f32) (harg4 : arg4.IsWhole) (arg5 : Memref sig .tc .vmem S2048x2048 .f32) (harg5 : arg5.IsWhole)
  (x0 : Vec Ideal S2048x2048 .f32) (x1 : Vec Ideal S1x2048 .i32) (x2 : Vec Ideal S1x2048 .f32)

/-- The one-hot columns of a slab as the region makes them. -/
theorem hot_read (s : Fin 8) (i : Fin 2048) (a : Fin 256) :
    hot (F := Ideal) (View.readAt (Elt Ideal) arg2.view (rectIdx s).toLoadRect (harg2.unread x1)) (ix2 i a)
      = hotF (fun j => x1 (ix2 0 j)) i (col s a) := by
  refine (hot_apply _ i a).trans ?_
  unfold hotF
  exact if_congr (Eq.congr_right (readAt_idx arg2 harg2 x1 s a)) rfl rfl

/-- The permuted gram matrix as the region makes it. -/
theorem gp_read (s : Fin 8) (i : Fin 2048) (a : Fin 256) :
    arg5.view.readCov (gpPieces (View.readAt (Elt Ideal) arg1.view (Rect.unit ![0, 0] S2048x2048.size inb_S2048x2048_S2048x2048_0_0).toLoadRect (harg1.unread x0))
        (fun j => View.readAt (Elt Ideal) arg2.view (rectIdxQ j).toLoadRect (harg2.unread x1))) (rectSlab s).toLoadRect (ix2 i a)
      = gpF (fun i j => x0 (ix2 i j)) (fun j => x1 (ix2 0 j)) i (col s a) := by
  rw [readCov_slab, View.readAt_eq_ld, harg1.read_unread, View.ld_unit_zero (by decide) _ x0]
  refine read_quarters arg5.view _ (fun p => k1_pay3 (View.readAt (Elt Ideal) arg2.view (rectIdxQ p).toLoadRect (harg2.unread x1)) x0) _
    (fun p i b => ?_) i (col s a) [3, 2, 1, 0] ?_
  · refine (quarter_apply _ x0 i b).trans (Finset.sum_congr rfl fun k _ => congrArg (fun y : EReal => x0 (ix2 i k) * y) ?_)
    unfold hotF
    exact if_congr (Eq.congr_right (readAt_idxQ arg2 harg2 x1 p b)) rfl rfl
  · revert s a; intro s a; generalize qtr (col s a) = q; revert q; decide

/-- The root of a slab from its one-hot columns, its columns of the permuted gram matrix and the means. -/
theorem root_of (g : Fin 2048 → Fin 2048 → EReal) (idx : Fin 2048 → BitVec 32) (mu : Fin 2048 → EReal) (s : Fin 8)
    (P : FVec Ideal S2048x256 .f32) (gp : Vec Ideal S2048x256 .f32) (m0 : Vec Ideal S1x2048 .f32)
    (hP : ∀ i a, P (ix2 i a) = hotF idx i (col s a)) (hg : ∀ i a, gp (ix2 i a) = gpF g idx i (col s a)) (hm : ∀ j, m0 (ix2 0 j) = mu j)
    (a b : Fin 256) : root (cov P gp m0) (ix2 a b) = rootF g idx mu s a b := by
  have hC : entries (cov P gp m0) = covF g idx mu s := by
    funext a b
    refine (cov_apply P gp m0 a b).trans ?_
    simp only [hP, hg, hm]
    rfl
  rw [root_apply, hC]
  rfl

/-- The means as the body reads them. -/
theorem mean_read (j : Fin 2048) :
    View.readAt (Elt Ideal) arg3.view (Rect.unit ![0, 0] S1x2048.size inb_S1x2048_S1x2048_0_0).toLoadRect (harg3.unread x2) (ix2 0 j)
      = x2 (ix2 0 j) := by
  rw [View.readAt_eq_ld, harg3.read_unread, View.ld_unit_zero (by decide) _ x2]

/-- What the region's one point leaves, at an entry. -/
theorem out1_apply (i j : Fin 2048) :
    out1_A_3 c i0 arg1 harg1 arg2 harg2 arg3 harg3 arg4 harg4 arg5 harg5 x0 x1 x2 (ix2 i j)
      = whiteF (fun i j => x0 (ix2 i j)) (fun j => x1 (ix2 0 j)) (fun j => x2 (ix2 0 j)) i j := by
  unfold out1_A_3
  rw [run_pieces, View.read_writes_junk_eq_canon, ← View.read_writes_junk_eq_canon arg4.view]
  refine (read_mPieces arg4.view _ rfl _ _ i j 32).trans ?_
  have hq := (qtr j).isLt
  rw [show (32 + 3 - (qtr j).val) / 4 = 8 from by omega, Finset.sum_range]
  refine Finset.sum_congr rfl fun s _ => Finset.sum_congr rfl fun b _ => ?_
  have hs : (⟨s.val % 8, Nat.mod_lt _ (by decide)⟩ : Fin 8) = s := Fin.ext (Nat.mod_eq_of_lt s.isLt)
  rw [hs]
  refine congrArg₂ (fun y z : EReal => y * z) ((placed_apply _ _ i b).trans (Finset.sum_congr rfl fun a _ => ?_))
    (hot_read arg2 harg2 x1 s j b)
  exact congrArg₂ (fun y z : EReal => y * z) (hot_read arg2 harg2 x1 s i a)
    (root_of _ _ _ s _ _ _ (hot_read arg2 harg2 x1 s) (gp_read arg1 harg1 arg2 harg2 arg5 x0 x1 s) (mean_read arg3 harg3 x2) a b)

end Run

/-- The point of the grid. -/
abbrev last1 : Fin cfg1.N := ⟨0, by decide⟩

theorem whole1_3 : (cfg1.win 3).WholeAt last1 := by decide +kernel

/-- The whitening matrix's array after the region. -/
theorem white_array (i j : Fin 2048) :
    (dat1 V c).arrAt 3 cfg1.N (ix2 i j : S2048x2048.Idx) = whiteF (gramOf V c) (idxOf V c) (meanOf V c) i j := by
  refine ((dat1 V c).arrAt_emb_eq_after_last 3 last1 whole1_3 (ix2 i j : S2048x2048.Idx)).trans ?_
  show (dat1 V c).after 3 last1 (ix2 i j : S2048x2048.Idx) = _
  rw [after1_3]
  unfold outsAt1
  refine (out1_apply _ _ _ _ _ _ _ _ _ _ _ _ _ _ _ i j).trans ?_
  simp only [iblk1_gram, iblk1_idx, iblk1_mean]

end Cert.KernelIdeal.Whole

end
-- ==== Proof.ApplyValue.lean ====
/-
  What the last region leaves in the result's array: every centred row times the matrix that whitens.
-/
module

public import proofs.«01_k».proof.Proof.StatsValue
public import proofs.«01_k».proof.Proof.WhitenValue
public import Idealize.ShloMosaic.Lib.Pointwise

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

variable (V : (c : Dev nD) → (b : Ref sig .tc) → Buf (Elt Ideal) ((c : Thread nD τ).loc b)) (c : Dev nD)

theorem index2_0 : ∀ t : Fin cfg2.N, win2_0.index t = ![t.val, 0] := by decide +kernel
theorem index2_1 : ∀ t : Fin cfg2.N, win2_1.index t = ![0, 0] := by decide +kernel
theorem index2_2 : ∀ t : Fin cfg2.N, win2_2.index t = ![0, 0] := by decide +kernel
theorem index2_3 : ∀ t : Fin cfg2.N, win2_3.index t = ![t.val, 0] := by decide +kernel

/-- The product of a centred row block with the matrix, at an index. -/
theorem apply_point (x : Vec Ideal S1024x2048 .f32) (mu : Vec Ideal S1x2048 .f32) (M : Vec Ideal S2048x2048 .f32)
    (r : Fin 1024) (j : Fin 2048) :
    k2_pay1 x mu M (ix2 r j) = ∑ i : Fin 2048, ((x (ix2 r i) - mu (ix2 0 i)) * M (ix2 i j) : EReal) := by
  pointwise [k2_pay1]

/-- The matrix the second region left, as entries. -/
def matOf : Fin 2048 → Fin 2048 → EReal := fun i j => V c main_v2 (ix2 i j)

/-- The result the last region leaves, as one array. -/
def applied : S32768x2048.Idx → EReal := fun q =>
  ∑ i : Fin 2048, (rowsOf V c (q 0) i - meanOf V c i) * matOf V c i (q 1)

/-- The last region leaves the centred rows times the matrix. -/
theorem apply_array : (dat2 V c).arrAt 3 cfg2.N = applied V c := by
  refine (dat2 V c).arrAt_eq_of_covers 3 _ (by decide +kernel) fun t _ y => ?_
  blk_simp
  rw [after2_3]; frame_out
  obtain ⟨r, j, rfl⟩ : ∃ (r : Fin 1024) (j : Fin 2048), y = ix2 r j := ⟨y 0, y 1, (ix2_eta y).symm⟩
  refine (apply_point _ _ _ r j).trans ?_
  unfold applied rowsOf meanOf matOf
  blk_point [iblk2, index2_0 t, index2_1 t, index2_2 t, index2_3 t]
  done

end Cert.KernelIdeal.Whole

end
-- ==== Proof.KernelValue.lean ====
/-
  What a run of the idealized kernel ends with, as a plain function of the rows and of the feature numbers: the three regions' values
  put one after the other.
-/
module

public import proofs.«01_k».proof.Proof.KernelRun
public import proofs.«01_k».proof.Proof.ApplyValue

@[expose] public section

set_option maxRecDepth 16384

noncomputable section

namespace Cert.KernelIdeal.Whole

open Idealize.ShloMosaic Idealize.ShloMosaic.TcCoe Idealize.ShloMosaic.Tactic Idealize.SL.Sem
open Cert.KernelIdeal.Gen

/-- The column means, as the kernel states them. -/
def meanF (X : Fin 32768 → Fin 2048 → EReal) (j : Fin 2048) : EReal := colSum X j * ((1 / 32768 : ℝ) : EReal)

/-- The gram matrix, as the kernel states it: the diagonal blocks halved, the blocks over the diagonal whole, the others zero. -/
def gramF (X : Fin 32768 → Fin 2048 → EReal) (k l : Fin 2048) : EReal :=
  if blk k = blk l then colProd X k l * ((1 / 2 : ℝ) : EReal) else if blk k ≤ blk l then colProd X k l else 0

/-- The kernel's result: every centred row times the matrix that whitens. -/
def outF (X : Fin 32768 → Fin 2048 → EReal) (idx : Fin 2048 → BitVec 32) (n : Fin 32768) (j : Fin 2048) : EReal :=
  ∑ i : Fin 2048, (X n i - meanF X i) * whiteF (gramF X) idx (meanF X) i j

variable (m : (ℓ : Loc nD τ sig) → Buf (Elt Ideal) ℓ) (ρ : Dev nD → PrngReg) (c : Dev nD)

/-- The rows a launch begins with. -/
def rowsM : Fin 32768 → Fin 2048 → EReal := fun n j => m ((c : Thread nD τ).loc main_arg0) (ix2 n j)

/-- The feature numbers a launch begins with. -/
def idxM : Fin 2048 → BitVec 32 := fun j => m ((c : Thread nD τ).loc main_arg1) (ix1 j)

/-- The second region finds the means. -/
theorem V2_mean (j : Fin 2048) : meanOf (V2 m ρ) c j = meanF (rowsM m c) j := by
  refine (congrFun (W2_of m ρ c main_v0_0 (by decide)) (ix2 0 j)).trans ?_
  refine (congrFun (W1_arr m ρ c 1) (ix2 0 j)).trans ?_
  exact mean_array (V0 m ρ) c j

/-- The second region finds the gram matrix. -/
theorem V2_gram (k l : Fin 2048) : gramOf (V2 m ρ) c k l = gramF (rowsM m c) k l := by
  refine (congrFun (W2_of m ρ c main_v0_1 (by decide)) (ix2 k l)).trans ?_
  refine (congrFun (W1_arr m ρ c 2) (ix2 k l)).trans ?_
  exact gram_array (V0 m ρ) c k l

/-- The second region finds the feature numbers. -/
theorem V2_idx (j : Fin 2048) : idxOf (V2 m ρ) c j = idxM m c j := by
  unfold idxOf V2 W2
  refine Eq.trans (b := shapeCast S1x2048 (W1 m ρ c (Proc.devRef .tc main_arg1)) shapeCasts_S2048_S1x2048 (ix2 0 j)) ?_ ?_
  · rfl
  rw [W1_args m ρ c main_arg1 (by decide)]
  pointwise []
  rfl

/-- The last region finds the rows. -/
theorem V3_rows (n : Fin 32768) (j : Fin 2048) : rowsOf (V3 m ρ) c n j = rowsM m c n j :=
  congrFun (W3_args m ρ c main_arg0 (by decide)) (ix2 n j)

/-- The last region finds the means. -/
theorem V3_mean (j : Fin 2048) : meanOf (V3 m ρ) c j = meanF (rowsM m c) j :=
  (congrFun (W3_of m ρ c main_v0_0 (by decide)) (ix2 0 j)).trans (V2_mean m ρ c j)

/-- The last region finds the matrix that whitens. -/
theorem V3_mat (i j : Fin 2048) :
    matOf (V3 m ρ) c i j = whiteF (gramF (rowsM m c)) (idxM m c) (meanF (rowsM m c)) i j := by
  refine (congrFun (W3_arr m ρ c 3) (ix2 i j)).trans ?_
  refine (white_array (V2 m ρ) c i j).trans ?_
  rw [show gramOf (V2 m ρ) c = gramF (rowsM m c) from funext fun k => funext fun l => V2_gram m ρ c k l,
    show idxOf (V2 m ρ) c = idxM m c from funext fun k => V2_idx m ρ c k,
    show meanOf (V2 m ρ) c = meanF (rowsM m c) from funext fun k => V2_mean m ρ c k]

/-- The result's array after the three regions. -/
theorem kernel_value : W4 m ρ c (Proc.devRef .tc main_v3)
    = fun q : S32768x2048.Idx => outF (rowsM m c) (idxM m c) (q 0) (q 1) := by
  refine (W4_arr m ρ c 3).trans ((apply_array (V3 m ρ) c).trans (funext fun q => ?_))
  unfold applied outF
  exact Finset.sum_congr rfl fun i _ =>
    congrArg₂ (· * ·) (congrArg₂ (· - ·) (V3_rows m ρ c (q 0) i) (V3_mean m ρ c i)) (V3_mat m ρ c i (q 1))

end Cert.KernelIdeal.Whole

end
-- ==== Proof.RefOrder.lean ====
/-
  The movements of the reference that depend on the feature numbers: the gather of the columns in the shuffled order, the argsort of the
  feature numbers, and the gather back.
-/
module

public import proofs.«01_k».proof.Proof.Gen.ReferenceIdeal.Run
public import Idealize.ShloMosaic.Lib.Pointwise
public import Idealize.ShloMosaic.Lib.Routing.Ops
public import Idealize.ShloMosaic.Lib.SortFacts

@[expose] public section

set_option maxRecDepth 16384

noncomputable section

namespace Cert.ReferenceIdeal.Whole

open Idealize.ShloMosaic Idealize.ShloMosaic.TcCoe Idealize.ShloMosaic.Tactic Idealize.SL.Sem
open Cert.ReferenceIdeal.Gen Cert.ReferenceIdeal.Value

/-- The gather along the columns: where the index table holds the number of a column, the result's column is the operand's column of that
    number. -/
theorem gather_cols (x : Vec Ideal S32768x2048 .f32) (idx : IVec S2048x1 32) (n : Fin 32768) (j b : Fin 2048)
    (hb : idx (ix2 j (0 : Fin 1)) = BitVec.ofNat 32 b.val) :
    Host.gather gather_S32768x2048_S2048x1_S32768x2048_0_1_n_n_1_1_327681 x idx (ix2 n j) = x (ix2 n b) := by
  unfold Host.gather
  refine congrArg x (funext fun a => Fin.ext ?_)
  match a with
  | ⟨0, _⟩ =>
    show GatherDims.start _ _ _ _ + GatherDims.batchCoord _ _ _ + GatherDims.offCoord _ _ _ = n.val
    unfold GatherDims.start GatherDims.batchCoord GatherDims.offCoord
    rw [dif_neg (by decide +revert), dif_neg (by decide +revert), dif_pos (by decide +revert)]
    show 0 + 0 + n.val = n.val
    omega
  | ⟨1, _⟩ =>
    show GatherDims.start _ _ _ _ + GatherDims.batchCoord _ _ _ + GatherDims.offCoord _ _ _ = b.val
    unfold GatherDims.start GatherDims.batchCoord GatherDims.offCoord
    rw [dif_pos (by decide +revert), dif_neg (by decide +revert), dif_neg (by decide +revert)]
    have hs : ∀ q, gather_S32768x2048_S2048x1_S32768x2048_0_1_n_n_1_1_327681.siIdx (ix2 n j) q = ix2 j (0 : Fin 1) := by
      intro q
      funext b'
      apply Fin.ext
      match b' with
      | ⟨0, _⟩ => rfl
      | ⟨1, _⟩ => exact (Nat.lt_one_iff.mp q.isLt)
    rw [hs, hb, StableHlo.Predicate.toInt_ofNat_small _ (by omega)]
    show min ((b.val : Int)).toNat (2048 - 1) + 0 + 0 = b.val
    omega

/-- The gather along the rows, likewise. -/
theorem gather_rows (x : Vec Ideal S2048x32768 .f32) (idx : IVec S2048x1 32) (j b : Fin 2048) (n : Fin 32768)
    (hb : idx (ix2 j (0 : Fin 1)) = BitVec.ofNat 32 b.val) :
    Host.gather gather_S2048x32768_S2048x1_S2048x32768_1_0_n_n_0_1_132768 x idx (ix2 j n) = x (ix2 b n) :=
  Routing.gather_row _ rfl rfl rfl rfl rfl x idx j n b hb (by omega)

/-- The numbers of the columns of a table of words, made nonnegative the way the printed indexing makes them, as a column. -/
def wrapped (v : IVec S2048 32) : IVec S2048x1 32 :=
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 2048#32))) v)

/-- A word below 2048 is not negative. -/
theorem slt_zero (b : Fin 2048) : IntOp.cmpi .slt (BitVec.ofNat 32 b.val) 0#32 = 0#1 := by
  revert b; decide +kernel

/-- Numbers of columns stay as they are. -/
theorem wrapped_apply (v : IVec S2048 32) (j b : Fin 2048) (h : v (ix1 j) = BitVec.ofNat 32 b.val) :
    wrapped v (ix2 j (0 : Fin 1)) = BitVec.ofNat 32 b.val := by
  unfold wrapped
  pointwise []
  rw [h, slt_zero]
  rfl

/-- Comparing two numbers of columns as signed words compares the numbers. -/
theorem slt_iff (a b : Fin 2048) : (IntOp.cmpi .slt (BitVec.ofNat 32 a.val) (BitVec.ofNat 32 b.val) == 1#1) = decide (a < b) := by
  have h : (BitVec.ofNat 32 a.val).slt (BitVec.ofNat 32 b.val) = decide (a < b) := by
    rw [BitVec.slt, StableHlo.Predicate.toInt_ofNat_small _ (by omega), StableHlo.Predicate.toInt_ofNat_small _ (by omega)]
    exact decide_eq_decide.mpr (by rw [Fin.lt_def]; omega)
  show (BitVec.ofBool ((BitVec.ofNat 32 a.val).slt (BitVec.ofNat 32 b.val)) == 1#1) = _
  rw [h]
  cases decide (a < b) <;> rfl

/-- The positions a stable sort reads from, when the keys are the values of a permutation: the permutation's inverse. -/
theorem sorted_perm (σ : Fin 2048 → Fin 2048) (hσ : Function.Bijective σ) (k : Fin 2048) :
    sortedFrom (fun a b => decide (σ a < σ b)) (σ k) = k := by
  have hinj := sortedFrom_injective (fun a b => decide (σ a < σ b))
  have hmono : StrictMono fun i => σ (sortedFrom (fun a b => decide (σ a < σ b)) i) := fun i j hij => by
    have h := sortedFrom_noInversion (fun a b => decide (σ a < σ b)) (fun a b => decide (σ a < σ b))
      (fun a b h => by simp only [decide_eq_true_eq, decide_eq_false_iff_not] at h ⊢; omega) (fun a b h => h)
      (fun a b c h h' => by simp only [decide_eq_false_iff_not] at h h' ⊢; omega) i j hij
    simp only [decide_eq_false_iff_not, not_lt] at h
    exact lt_of_le_of_ne h fun e => hij.ne (hinj (hσ.1 e))
  have hid : (fun i => σ (sortedFrom (fun a b => decide (σ a < σ b)) i)) = id :=
    (hmono.range_inj strictMono_id).mp (by
      rw [Set.range_id]
      exact (hσ.2.comp (sortedFrom_surjective _)).range_eq)
  exact hσ.1 (congrFun hid (σ k))

/-- The position of a rank-1 index moved along its axis. -/
theorem along_ix1 (j q : Fin 2048) : ((ix1 j : S2048.Idx).along 0 q) = ix1 q := by
  funext t; match t with | ⟨0, _⟩ => rfl

/-- The iota at an index. -/
theorem iota_ix1 (q : Fin 2048) : iotaInDim S2048 32 0 (ix1 q) = BitVec.ofNat 32 q.val := rfl

/-- The argsort of a permutation is its inverse. -/
theorem argsort_apply (v : IVec S2048 32) (σ : Fin 2048 → Fin 2048) (hσ : Function.Bijective σ)
    (hv : ∀ j, v (ix1 j) = BitVec.ofNat 32 (σ j).val) (k : Fin 2048) :
    (Host.sort2 S2048 0 comparator_i32_i32_d0 v (iotaInDim S2048 32 0)).2 (ix1 (σ k)) = BitVec.ofNat 32 k.val := by
  have e : (fun a b : Fin 2048 => comparator_i32_i32_d0
        (v ((ix1 (σ k) : S2048.Idx).along 0 a), iotaInDim S2048 32 0 ((ix1 (σ k) : S2048.Idx).along 0 a))
        (v ((ix1 (σ k) : S2048.Idx).along 0 b), iotaInDim S2048 32 0 ((ix1 (σ k) : S2048.Idx).along 0 b)) == 1#1)
      = fun a b => decide (σ a < σ b) := by
    funext a b
    rw [along_ix1, along_ix1]
    show (IntOp.cmpi .slt (v (ix1 a)) (v (ix1 b)) == 1#1) = _
    rw [hv, hv, slt_iff]
  show iotaInDim S2048 32 0 ((ix1 (σ k) : S2048.Idx).along 0 (sortedFrom (fun a b : Fin 2048 => comparator_i32_i32_d0
        (v ((ix1 (σ k) : S2048.Idx).along 0 a), iotaInDim S2048 32 0 ((ix1 (σ k) : S2048.Idx).along 0 a))
        (v ((ix1 (σ k) : S2048.Idx).along 0 b), iotaInDim S2048 32 0 ((ix1 (σ k) : S2048.Idx).along 0 b)) == 1#1) (σ k))) = _
  have key : ∀ (R R' : Fin 2048 → Fin 2048 → Bool), R = R' → ∀ q : Fin 2048,
      iotaInDim S2048 32 0 ((ix1 (σ k) : S2048.Idx).along 0 (sortedFrom R q)) = BitVec.ofNat 32 (sortedFrom R' q).val := by
    rintro R _ rfl q
    exact (congrArg (iotaInDim S2048 32 0) (along_ix1 _ _)).trans (iota_ix1 _)
  have hk := key _ _ e (σ k)
  rw [sorted_perm σ hσ k] at hk
  exact hk

end Cert.ReferenceIdeal.Whole

end
-- ==== Proof.RefReads.lean ====
/-
  The reference's arrays read at an index, up to the scaled covariances.
-/
module

public import proofs.«01_k».proof.Proof.RefOrder
public import proofs.«01_k».proof.Proof.Maths

@[expose] public section

set_option maxRecDepth 16384

noncomputable section

namespace Cert.ReferenceIdeal.Whole

open Idealize.ShloMosaic Idealize.ShloMosaic.TcCoe Idealize.ShloMosaic.Tactic Idealize.SL.Sem
open Cert.ReferenceIdeal.Gen Cert.ReferenceIdeal.Value Cert.Whiten

/-- The place of lane `a` of group `g` among the features. -/
def grp (g : Fin 32) (a : Fin 64) : Fin 2048 := ⟨g.val * 64 + a.val, by omega⟩

/-- The bits of 32. -/
theorem groups_bits : Ideal.ofBits .f32 0x42000000#32 = ((32 : ℝ) : EReal) := by
  simp [Ideal.ofBits, Ideal.ieee, -EReal.coe_mul]; norm_num

/-- A group's centred entry. -/
def cenR (x : Fin 32768 → Fin 32 → Fin 64 → EReal) (g : Fin 32) (n : Fin 32768) (a : Fin 64) : EReal :=
  x n g a - Ideal.div (∑ k, x k g a) ((32768 : ℝ) : EReal)

/-- A group's covariance, as the reference scales it. -/
def covR (x : Fin 32768 → Fin 32 → Fin 64 → EReal) (g : Fin 32) (a b : Fin 64) : EReal :=
  Ideal.div (∑ n, cenR x g n a * cenR x g n b) ((32 : ℝ) : EReal)

/-- The greatest row sum of four groups that follow each other, at least the least scale. -/
def scaleR (x : Fin 32768 → Fin 32 → Fin 64 → EReal) (s : Fin 8) : EReal :=
  max (Finset.univ.sup fun r : Fin 256 =>
    rowAbs (covR x ⟨s.val * 4 + r.val / 64, by omega⟩) ⟨r.val % 64, by omega⟩) least

variable (V : Valuation τ sig (Elt Ideal))

/-- The rows, the features in the shuffled order. -/
def shuf (σ : Fin 2048 → Fin 2048) (n : Fin 32768) (g : Fin 32) (a : Fin 64) : EReal :=
  V (Proc.devRef .tc main_arg0) (ix2 n (σ (grp g a)))

section
variable (σ : Fin 2048 → Fin 2048)
  (hσ : ∀ j, V (Proc.devRef .tc main_arg1) (ix1 j) = BitVec.ofNat 32 (σ j).val)
include hσ

theorem v7_apply (n : Fin 32768) (g : Fin 32) (a : Fin 64) : res_main_v7 V (ix3 n g a) = shuf V σ n g a := by
  refine Eq.trans (b := Host.gather gather_S32768x2048_S2048x1_S32768x2048_0_1_n_n_1_1_327681 (V (Proc.devRef .tc main_arg0))
    (wrapped (V (Proc.devRef .tc main_arg1))) (ix2 n (grp g a))) ?_ (gather_cols _ _ n _ _ (wrapped_apply _ _ _ (hσ _)))
  unfold res_main_v7 wrapped
  generalize Host.gather _ _ _ = z
  pointwise []
  rfl

theorem v14_apply (g : Fin 32) (n : Fin 32768) (a : Fin 64) : res_main_v14 V (ix3 g n a) = cenR (shuf V σ) g n a := by
  unfold res_main_v14
  have h7 := v7_apply V σ hσ
  generalize res_main_v7 V = z at h7
  pointwise []
  simp only [h7, Cert.Whiten.rows_bits]
  rfl

theorem v17_apply (g : Fin 32) (a b : Fin 64) : res_main_v17 V (ix3 g a b) = covR (shuf V σ) g a b := by
  unfold res_main_v17
  have h14 := v14_apply V σ hσ
  generalize res_main_v14 V = z at h14
  pointwise []
  simp only [h14, groups_bits]
  rfl

theorem v26_apply (g : Fin 32) : res_main_v26 V (ix3 g 0 0) = scaleR (shuf V σ) ⟨g.val / 4, by omega⟩ := by
  unfold res_main_v26
  have h17 := v17_apply V σ hσ
  generalize res_main_v17 V = z at h17
  pointwise []
  simp only [h17, Cert.Whiten.neg_inf_bits]
  rfl

theorem v35_apply (g : Fin 32) (a b : Fin 64) :
    res_main_v35 V (ix3 g a b) = Ideal.div (covR (shuf V σ) g a b) (scaleR (shuf V σ) ⟨g.val / 4, by omega⟩) := by
  unfold res_main_v35
  pointwise []
  rw [v17_apply V σ hσ]
  exact congrArg (Ideal.div _) (v26_apply V σ hσ g)

end

theorem v33_apply (a b : Fin 64) : res_main_v33 V (ix3 0 a b) = one a b := by
  unfold res_main_v33
  pointwise []
  rw [show IntOp.addi (BitVec.ofNat 32 a.val) 0#32 = BitVec.ofNat 32 a.val from BitVec.add_zero _]
  by_cases h : a = b
  · subst h
    rw [one, if_pos rfl]
    show (((BitVec.ofBool (BitVec.ofNat 32 a.val == BitVec.ofNat 32 a.val)).toNat : ℝ) : EReal) = 1
    rw [beq_self_eq_true]; simp
  · rw [one, if_neg h]
    show (((BitVec.ofBool (BitVec.ofNat 32 a.val == BitVec.ofNat 32 b.val)).toNat : ℝ) : EReal) = 0
    rw [beq_eq_false_iff_ne.mpr fun e => h (Fin.ext (by
      have := congrArg BitVec.toNat e
      rw [BitVec.toNat_ofNat, BitVec.toNat_ofNat] at this; omega))]
    simp

theorem v36_apply (g : Fin 32) (a b : Fin 64) : res_main_v36 V (ix3 g a b) = one a b := by
  unfold res_main_v36
  pointwise []
  exact v33_apply V a b

end Cert.ReferenceIdeal.Whole

end
-- ==== Proof.RefValue.lean ====
/-
  The reference's result read at an index: the Newton–Schulz steps, the whitened groups, and the features put back in their places.
-/
module

public import proofs.«01_k».proof.Proof.RefReads

@[expose] public section

set_option maxRecDepth 16384

noncomputable section

namespace Cert.ReferenceIdeal.Whole

open Idealize.ShloMosaic Idealize.ShloMosaic.TcCoe Idealize.ShloMosaic.Tactic Idealize.SL.Sem
open Cert.ReferenceIdeal.Gen Cert.ReferenceIdeal.Value Cert.Whiten

/-- A group's inverse root: ten Newton–Schulz steps from the scaled covariance, scaled back. -/
def rootR (x : Fin 32768 → Fin 32 → Fin 64 → EReal) (g : Fin 32) (a b : Fin 64) : EReal :=
  (steps (fun i j => Ideal.div (covR x g i j) (scaleR x ⟨g.val / 4, by omega⟩)) 10).2 a b
    * Ideal.rsqrt (scaleR x ⟨g.val / 4, by omega⟩)

/-- A whitened entry. -/
def outR (x : Fin 32768 → Fin 32 → Fin 64 → EReal) (n : Fin 32768) (g : Fin 32) (e : Fin 64) : EReal :=
  ∑ d, cenR x g n d * rootR x g d e

/-- The product of the groups' matrices. -/
def mmR (a b : FVec Ideal S32x64x64 .f32) : FVec Ideal S32x64x64 .f32 :=
  Host.dotGeneral dot_S32x64x64_S32x64x64_S32x64x64_2_1_1_2_0_0 none a b

/-- The middle factor of a step. -/
def tR (V : Valuation τ sig (Elt Ideal)) (y z : FVec Ideal S32x64x64 .f32) : FVec Ideal S32x64x64 .f32 :=
  subf (broadcastInDim S32x64x64 ![0, 1, 2] bcast_S1x64x64_S32x64x64_0_1_2 (mulf (broadcastInDim S1x64x64 ![] bcast_S_S1x64x64 (constant S_ .f32 0x3FC00000#32)) (res_main_v33 V)))
    (mulf (broadcastInDim S32x64x64 ![] bcast_S_S32x64x64 (constant S_ .f32 0x3F000000#32)) (mmR z y))

/-- A product at an index. -/
theorem mmR_apply (a b : FVec Ideal S32x64x64 .f32) (g : Fin 32) (i j : Fin 64) :
    mmR a b (ix3 g i j) = ∑ k, (a (ix3 g i k) * b (ix3 g k j) : EReal) := by
  unfold mmR
  pointwise []

/-- The bits of one half. -/
theorem half_bits : Ideal.ofBits .f32 0x3F000000#32 = ((1 / 2 : ℝ) : EReal) := by
  simp [Ideal.ofBits, Ideal.ieee, -EReal.coe_mul]; norm_num

/-- The middle factor at an index. -/
theorem tR_apply (V : Valuation τ sig (Elt Ideal)) (y z : FVec Ideal S32x64x64 .f32) (g : Fin 32) (i j : Fin 64) :
    tR V y z (ix3 g i j) = stepT (fun a b => y (ix3 g a b)) (fun a b => z (ix3 g a b)) i j := by
  unfold tR
  have h33 := v33_apply V
  generalize res_main_v33 V = w at h33
  generalize hm : mmR z y = mm
  pointwise []
  rw [Cert.Whiten.three_halves_bits, half_bits, ← hm, mmR_apply, h33]
  rfl

/-- One step: where two arrays hold every group's pair after `n` steps, the step's arrays hold every group's pair after `n + 1`. -/
theorem step_entries (V : Valuation τ sig (Elt Ideal)) (A : Fin 32 → Fin 64 → Fin 64 → EReal) (n : ℕ) (y z : FVec Ideal S32x64x64 .f32)
    (h : ∀ g a b, (y (ix3 g a b) : EReal) = (steps (A g) n).1 a b ∧ (z (ix3 g a b) : EReal) = (steps (A g) n).2 a b) (y' z' : FVec Ideal S32x64x64 .f32)
    (ey : y' = mmR y (tR V y z)) (ez : z' = mmR (tR V y z) z) (g : Fin 32) (a b : Fin 64) :
    (y' (ix3 g a b) : EReal) = (steps (A g) (n + 1)).1 a b ∧ (z' (ix3 g a b) : EReal) = (steps (A g) (n + 1)).2 a b := by
  subst ey ez
  have hy : (fun a b => (y (ix3 g a b) : EReal)) = (steps (A g) n).1 := funext fun a => funext fun b => (h g a b).1
  have hz : (fun a b => (z (ix3 g a b) : EReal)) = (steps (A g) n).2 := funext fun a => funext fun b => (h g a b).2
  rw [mmR_apply, mmR_apply]
  simp only [tR_apply]
  rw [hy, hz]
  constructor
  · refine Finset.sum_congr rfl fun k _ => congrArg (fun q : EReal => q * _) (h g a k).1
  · refine Finset.sum_congr rfl fun k _ => congrArg (fun q : EReal => _ * q) (h g k b).2

/-- The groups whitened: the centred rows times the inverse roots scaled back. -/
def whitened (x : FVec Ideal S32x32768x64 .f32) (z : FVec Ideal S32x64x64 .f32) (s : FVec Ideal S32x1x1 .f32) : FVec Ideal S32x32768x64 .f32 :=
  Host.dotGeneral dot_S32x32768x64_S32x64x64_S32x32768x64_2_1_1_2_0_0 none x
    (mulf z (broadcastInDim S32x64x64 ![0, 1, 2] bcast_S32x1x1_S32x64x64_0_1_2 (Host.rsqrt s)))

/-- The groups' results side by side, the features in the shuffled order, features first. -/
def flat (y : FVec Ideal S32x32768x64 .f32) : FVec Ideal S2048x32768 .f32 :=
  shapeCast S2048x32768 (transpose S32x64x32768 [0, 2, 1] y transposes_S32x32768x64_S32x64x32768_0_2_1)
    shapeCasts_S32x64x32768_S2048x32768

/-- The features put back in their places, rows first. -/
def putBack (y : FVec Ideal S2048x32768 .f32) (inv : IVec S2048 32) : FVec Ideal S32768x2048 .f32 :=
  transpose S32768x2048 [1, 0] (Host.gather gather_S2048x32768_S2048x1_S2048x32768_1_0_n_n_0_1_132768 y (wrapped inv))
    transposes_S2048x32768_S32768x2048_1_0

variable (V : Valuation τ sig (Elt Ideal)) (σ : Fin 2048 → Fin 2048)

section
variable (hσ : ∀ j, V (Proc.devRef .tc main_arg1) (ix1 j) = BitVec.ofNat 32 (σ j).val)
include hσ

/-- The last step's second array holds every group's Z after ten steps. -/
theorem z_apply (g : Fin 32) (a b : Fin 64) :
    (mmR (res_main_v124 V) (res_main_v117 V) (ix3 g a b) : EReal)
      = (steps (fun i j => Ideal.div (covR (shuf V σ) g i j) (scaleR (shuf V σ) ⟨g.val / 4, by omega⟩)) 10).2 a b := by
  have h0 : ∀ g a b, ((res_main_v35 V : FVec Ideal S32x64x64 .f32) (ix3 g a b) : EReal) = (steps (fun i j => Ideal.div (covR (shuf V σ) g i j) (scaleR (shuf V σ) ⟨g.val / 4, by omega⟩)) 0).1 a b
      ∧ ((res_main_v36 V : FVec Ideal S32x64x64 .f32) (ix3 g a b) : EReal) = (steps (fun i j => Ideal.div (covR (shuf V σ) g i j) (scaleR (shuf V σ) ⟨g.val / 4, by omega⟩)) 0).2 a b :=
    fun g a b => ⟨v35_apply V σ hσ g a b, v36_apply V g a b⟩
  have st := step_entries V fun g i j => Ideal.div (covR (shuf V σ) g i j) (scaleR (shuf V σ) ⟨g.val / 4, by omega⟩)
  have h1 := st 0 _ _ h0 (res_main_v44 V) (res_main_v45 V) rfl rfl
  have h2 := st 1 _ _ h1 (res_main_v53 V) (res_main_v54 V) rfl rfl
  have h3 := st 2 _ _ h2 (res_main_v62 V) (res_main_v63 V) rfl rfl
  have h4 := st 3 _ _ h3 (res_main_v71 V) (res_main_v72 V) rfl rfl
  have h5 := st 4 _ _ h4 (res_main_v80 V) (res_main_v81 V) rfl rfl
  have h6 := st 5 _ _ h5 (res_main_v89 V) (res_main_v90 V) rfl rfl
  have h7 := st 6 _ _ h6 (res_main_v98 V) (res_main_v99 V) rfl rfl
  have h8 := st 7 _ _ h7 (res_main_v107 V) (res_main_v108 V) rfl rfl
  have h9 := st 8 _ _ h8 (res_main_v116 V) (res_main_v117 V) rfl rfl
  exact (st 9 _ _ h9 _ _ rfl rfl g a b).2

/-- The whitened groups at an index. -/
theorem y_apply (g : Fin 32) (n : Fin 32768) (e : Fin 64) :
    whitened (res_main_v14 V) (mmR (res_main_v124 V) (res_main_v117 V)) (res_main_v26 V) (ix3 g n e) = outR (shuf V σ) n g e := by
  have hz := z_apply V σ hσ
  have h14 := v14_apply V σ hσ
  have h26 := v26_apply V σ hσ
  generalize mmR (res_main_v124 V) (res_main_v117 V) = z at hz
  generalize res_main_v14 V = x at h14
  generalize res_main_v26 V = s at h26
  unfold whitened
  pointwise []
  simp only [hz, h14, h26]
  rfl

end

/-- The reference's result. -/
def result : FVec Ideal S32768x2048 .f32 :=
  putBack (flat (whitened (res_main_v14 V) (mmR (res_main_v124 V) (res_main_v117 V)) (res_main_v26 V))) (res_main_v131 V)

/-- The groups' results side by side, at an index. -/
theorem flat_apply (y : FVec Ideal S32x32768x64 .f32) (k : Fin 2048) (n : Fin 32768) :
    flat y (ix2 k n) = y (ix3 ⟨k.val / 64, by omega⟩ n ⟨k.val % 64, by omega⟩) := by
  unfold flat
  pointwise []

/-- The features put back, at an index. -/
theorem putBack_apply (y : FVec Ideal S2048x32768 .f32) (inv : IVec S2048 32) (n : Fin 32768) (j k : Fin 2048)
    (h : inv (ix1 j) = BitVec.ofNat 32 k.val) : putBack y inv (ix2 n j) = y (ix2 k n) := by
  refine Eq.trans ?_ (gather_rows y (wrapped inv) j k n (wrapped_apply inv j k h))
  unfold putBack
  generalize Host.gather _ _ _ = z
  pointwise []

/-- The reference's result at a feature: the whitened entry at the feature's place in the shuffled order. -/
theorem result_apply (hσb : Function.Bijective σ)
    (hσ : ∀ j, V (Proc.devRef .tc main_arg1) (ix1 j) = BitVec.ofNat 32 (σ j).val) (n : Fin 32768) (k : Fin 2048) :
    result V (ix2 n (σ k)) = outR (shuf V σ) n ⟨k.val / 64, by omega⟩ ⟨k.val % 64, by omega⟩ :=
  (putBack_apply _ _ n (σ k) k (argsort_apply _ σ hσb hσ k)).trans ((flat_apply _ k n).trans (y_apply V σ hσ _ n _))

end Cert.ReferenceIdeal.Whole

end
-- ==== Proof.BlockMaths.lean ====
/-
  Matrices that are zero off the diagonal blocks: their products, the Newton–Schulz steps from them and their row sums are those of the
  blocks.
-/
module

public import proofs.«01_k».proof.Proof.Maths

@[expose] public section

noncomputable section

namespace Cert.Whiten

open Idealize.ShloMosaic

variable {ι γ κ : Type} [Fintype ι] [DecidableEq ι] [Fintype γ] [DecidableEq γ] [Fintype κ] [DecidableEq κ] (e : ι ≃ γ × κ)

/-- The matrix with the given diagonal blocks and zero elsewhere. -/
def diag (b : γ → κ → κ → EReal) : ι → ι → EReal :=
  fun i j => if (e i).1 = (e j).1 then b (e i).1 (e i).2 (e j).2 else 0

/-- A sum of terms that are zero off one block is the sum over that block. -/
theorem sum_block (g : γ) (f : ι → EReal) (h : ∀ i, (e i).1 ≠ g → f i = 0) : ∑ i, f i = ∑ k, f (e.symm (g, k)) := by
  rw [← e.symm.sum_comp, Fintype.sum_prod_type]
  refine Finset.sum_eq_single g (fun q _ hq => Finset.sum_eq_zero fun k _ => h _ ?_) fun hg => absurd (Finset.mem_univ g) hg
  rw [Equiv.apply_symm_apply]; exact hq

/-- The identity's blocks are identities. -/
theorem diag_one : (one : ι → ι → EReal) = diag e fun _ => one := by
  funext i j
  unfold one diag
  by_cases h : i = j
  · subst h; rw [if_pos rfl, if_pos rfl]; exact (if_pos rfl).symm
  · rw [if_neg h]
    by_cases hg : (e i).1 = (e j).1
    · rw [if_pos hg]; exact (if_neg fun hl => h (e.injective (Prod.ext hg hl))).symm
    · rw [if_neg hg]

/-- A product's blocks are the blocks' products. -/
theorem diag_mmul (a b : γ → κ → κ → EReal) : mmul (diag e a) (diag e b) = diag e fun g => mmul (a g) (b g) := by
  funext i j
  show (∑ k, diag e a i k * diag e b k j) = _
  rw [sum_block e (e i).1 _ fun k hk => by
    show (if (e i).1 = (e k).1 then _ else _) * _ = _
    rw [if_neg fun h => hk h.symm, zero_mul]]
  unfold diag
  simp only [Equiv.apply_symm_apply, if_true]
  by_cases h : (e i).1 = (e j).1
  · simp only [if_pos h]; rfl
  · simp only [if_neg h, mul_zero, Finset.sum_const_zero]

/-- A middle factor's blocks are the blocks' middle factors. -/
theorem diag_stepT (y z : γ → κ → κ → EReal) : stepT (diag e y) (diag e z) = diag e fun g => stepT (y g) (z g) := by
  funext i j
  unfold stepT
  rw [diag_mmul, diag_one e]
  unfold diag
  by_cases h : (e i).1 = (e j).1
  · simp only [if_pos h]
  · simp only [if_neg h, mul_zero, sub_zero]

/-- The steps' blocks are the blocks' steps. -/
theorem diag_steps (b : γ → κ → κ → EReal) (n : ℕ) :
    steps (diag e b) n = (diag e fun g => (steps (b g) n).1, diag e fun g => (steps (b g) n).2) := by
  induction n with
  | zero => exact Prod.ext rfl (diag_one e)
  | succ n ih =>
    show (mmul (steps (diag e b) n).1 (stepT (steps (diag e b) n).1 (steps (diag e b) n).2),
      mmul (stepT (steps (diag e b) n).1 (steps (diag e b) n).2) (steps (diag e b) n).2) = _
    rw [ih]
    simp only [diag_stepT, diag_mmul]
    rfl

/-- A row's sum of absolute values is that of the block's row. -/
theorem diag_rowAbs (b : γ → κ → κ → EReal) (i : ι) : rowAbs (diag e b) i = rowAbs (b (e i).1) (e i).2 := by
  unfold rowAbs
  rw [sum_block e (e i).1 _ fun k hk => by
    have h0 : diag e b i k = 0 := if_neg fun h => hk h.symm
    rw [h0, neg_zero, max_self]]
  unfold diag
  simp only [Equiv.apply_symm_apply, if_true]

end Cert.Whiten

end
-- ==== Proof.Infinities.lean ====
/-
  Infinities among the extended reals: where they come from an entry into sums of squares, row sums and scales.
-/
module

public import proofs.«01_k».proof.Proof.Maths

@[expose] public section

noncomputable section

namespace Cert.Whiten

open Idealize.ShloMosaic

/-- One of the two infinities. -/
def Infinite (x : EReal) : Prop := x = ⊤ ∨ x = ⊥

/-- What is not infinite is real. -/
theorem real_of_not_infinite {x : EReal} (h : ¬ Infinite x) : ∃ t : ℝ, x = (t : EReal) := by
  induction x using EReal.rec with
  | bot => exact absurd (.inr rfl) h
  | coe t => exact ⟨t, rfl⟩
  | top => exact absurd (.inl rfl) h

/-- An infinity less anything is an infinity. -/
theorem infinite_sub {x : EReal} (h : Infinite x) (y : EReal) : Infinite (x - y) := by
  rcases h with rfl | rfl
  · induction y using EReal.rec with
    | bot => exact .inl rfl
    | coe t => exact .inl rfl
    | top => exact .inr rfl
  · exact .inr (by rw [sub_eq_add_neg, EReal.bot_add])

/-- An infinity times a positive real is an infinity. -/
theorem infinite_mul {x : EReal} (h : Infinite x) {t : ℝ} (ht : 0 < t) : Infinite (x * (t : EReal)) := by
  rcases h with rfl | rfl
  · exact .inl (EReal.top_mul_coe_of_pos ht)
  · exact .inr (EReal.bot_mul_coe_of_pos ht)

/-- A sum of numbers that are not negative, one of them infinite. -/
theorem sum_top {α : Type} [Fintype α] (f : α → EReal) (h0 : ∀ i, 0 ≤ f i) (i : α) (h : f i = ⊤) : ∑ i, f i = ⊤ :=
  top_le_iff.mp (h ▸ Finset.single_le_sum (fun j _ => h0 j) (Finset.mem_univ i))

/-- A square is not negative. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A sum of squares, one of them an infinity's. -/
theorem sum_squares {α : Type} [Fintype α] (f : α → EReal) (i : α) (h : Infinite (f i)) : ∑ i, f i * f i = ⊤ :=
  sum_top _ (fun j => square_nonneg (f j)) i (by
    rcases h with h | h
    · rw [h, EReal.top_mul_top]
    · rw [h, EReal.bot_mul_bot])

/-- A row's sum of absolute values, one entry an infinity. -/
theorem rowAbs_top {ι : Type} [Fintype ι] (c : ι → ι → EReal) (i j : ι) (h : Infinite (c i j)) : rowAbs c i = ⊤ :=
  sum_top _ (fun k => by
    rcases le_total 0 (c i k) with h | h
    · exact le_max_of_le_left h
    · exact le_max_of_le_right (EReal.neg_nonneg.mpr h)) j (by
    rcases h with h | h
    · rw [h]; exact max_eq_left le_top
    · rw [h, EReal.neg_bot]; exact max_eq_right bot_le)

/-- A scale, one of the row sums infinite. -/
theorem scale_top {ι : Type} [Fintype ι] (f : ι → EReal) (i : ι) (h : f i = ⊤) (l : EReal) : max (Finset.univ.sup f) l = ⊤ :=
  top_le_iff.mp (h ▸ (Finset.le_sup (Finset.mem_univ i)).trans (le_max_left _ _))

end Cert.Whiten

end
-- ==== Proof.SlabMaths.lean ====
/-
  The kernel's covariances, scales and inverse roots against the reference's, when the feature numbers are a permutation's: each slab's
  matrix has the reference's four groups on its diagonal and zero elsewhere. Where a slab's features hold real numbers only, this is the
  expansion of the centred products. Where one of them holds an infinity, both scales are infinite and both inverse roots are zero.
-/
module

public import proofs.«01_k».proof.Proof.KernelValue
public import proofs.«01_k».proof.Proof.RefValue
public import proofs.«01_k».proof.Proof.BlockMaths
public import proofs.«01_k».proof.Proof.Infinities

@[expose] public section

set_option maxRecDepth 16384

noncomputable section

namespace Cert.Whiten

open Idealize.ShloMosaic
open Cert.KernelIdeal.Whole (colSum colProd meanF gramF hotF gpF covF rootF blk lo col)
open Cert.ReferenceIdeal.Whole (cenR covR scaleR rootR grp)

/-- A slab's place: which of its four groups, and which lane. -/
def slabEquiv : Fin 256 ≃ Fin 4 × Fin 64 where
  toFun a := (⟨a.val / 64, by omega⟩, ⟨a.val % 64, by omega⟩)
  invFun p := ⟨p.1.val * 64 + p.2.val, by omega⟩
  left_inv a := Fin.ext (by show a.val / 64 * 64 + a.val % 64 = a.val; omega)
  right_inv p := Prod.ext (Fin.ext (by show (p.1.val * 64 + p.2.val) / 64 = p.1.val; omega))
    (Fin.ext (by show (p.1.val * 64 + p.2.val) % 64 = p.2.val; omega))

/-- A group of a slab. -/
def grpOf (s : Fin 8) (q : Fin 4) : Fin 32 := ⟨s.val * 4 + q.val, by omega⟩

/-- A slab's place among the features is its group's. -/
theorem col_eq (s : Fin 8) (a : Fin 256) : col s a = grp (grpOf s (slabEquiv a).1) (slabEquiv a).2 :=
  Fin.ext (by show 256 * s.val + a.val = (s.val * 4 + a.val / 64) * 64 + a.val % 64; omega)

variable (X : Fin 32768 → Fin 2048 → EReal) (r : Fin 32768 → Fin 2048 → ℝ) (σ : Fin 2048 → Fin 2048) (idx : Fin 2048 → BitVec 32)

/-- The rows in the shuffled order. -/
def shufE : Fin 32768 → Fin 32 → Fin 64 → EReal := fun n g a => X n (σ (grp g a))

/-- A feature's mean. -/
def meanE (j : Fin 2048) : ℝ := (∑ n, r n j) / 32768

/-- The sum of products of two centred features. -/
def crossE (k l : Fin 2048) : ℝ := ∑ n, (r n k - meanE r k) * (r n l - meanE r l)

/-- A finite sum of reals, as an extended real. -/
theorem coe_sum {α : Type} (s : Finset α) (f : α → ℝ) : (∑ i ∈ s, (f i : EReal)) = ((∑ i ∈ s, f i : ℝ) : EReal) := by
  induction s using Finset.cons_induction with
  | empty => simp
  | cons a s ha ih => rw [Finset.sum_cons, Finset.sum_cons, ih, EReal.coe_add]

/-- A quotient of reals, the divisor not zero. -/
theorem coe_div (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The mean of a feature that holds real numbers. -/
theorem meanF_eq (j : Fin 2048) (h : ∀ n, X n j = (r n j : EReal)) : meanF X j = (meanE r j : EReal) := by
  unfold meanF colSum meanE
  simp only [h]
  rw [coe_sum, ← EReal.coe_mul]
  congr 1
  ring

/-- The sum of products of two features that hold real numbers. -/
theorem colProd_eq (k l : Fin 2048) (hk : ∀ n, X n k = (r n k : EReal)) (hl : ∀ n, X n l = (r n l : EReal)) :
    colProd X k l = ((∑ n, r n k * r n l : ℝ) : EReal) := by
  unfold colProd
  simp only [hk, hl, ← EReal.coe_mul, coe_sum]

/-- The gram matrix plus its transpose is the full matrix of products. -/
theorem gramF_add (k l : Fin 2048) (hk : ∀ n, X n k = (r n k : EReal)) (hl : ∀ n, X n l = (r n l : EReal)) :
    gramF X k l + gramF X l k = ((∑ n, r n k * r n l : ℝ) : EReal) := by
  have hs : (∑ n, r n l * r n k) = ∑ n, r n k * r n l := Finset.sum_congr rfl fun n _ => mul_comm _ _
  unfold gramF
  rw [colProd_eq X r k l hk hl, colProd_eq X r l k hl hk, hs]
  generalize (∑ n, r n k * r n l) = p
  by_cases h : blk k = blk l
  · rw [if_pos h, if_pos h.symm, ← EReal.coe_mul, ← EReal.coe_add]
    exact congrArg Real.toEReal (by ring)
  · rw [if_neg h, if_neg fun h' : blk l = blk k => h h'.symm]
    rcases lt_or_gt_of_ne h with h' | h'
    · rw [if_pos h'.le, if_neg (not_le.mpr h'), add_zero]
    · rw [if_neg (not_le.mpr h'), if_pos h'.le, zero_add]

/-- Centring the sum of products. -/
theorem cross_eq (k l : Fin 2048) : (∑ n, r n k * r n l) - 32768 * (meanE r k * meanE r l) = crossE r k l := by
  have hk : ∑ n, r n k = 32768 * meanE r k := by unfold meanE; ring
  have hl : ∑ n, r n l = 32768 * meanE r l := by unfold meanE; ring
  unfold crossE
  simp only [sub_mul, mul_sub, Finset.sum_sub_distrib, ← Finset.mul_sum, ← Finset.sum_mul, hk, hl, Finset.sum_const, Finset.card_univ,
    Fintype.card_fin, nsmul_eq_mul]
  push_cast
  ring

/-- A centred entry is the entry less the kernel's mean. -/
theorem cenR_mean (g : Fin 32) (n : Fin 32768) (a : Fin 64) :
    cenR (shufE X σ) g n a = X n (σ (grp g a)) - meanF X (σ (grp g a)) := by
  unfold cenR shufE meanF colSum Ideal.div
  rw [if_neg (by exact_mod_cast (by norm_num : (32768 : ℝ) ≠ 0)), ← EReal.coe_inv, one_div]

/-- A centred entry of a feature that holds real numbers. -/
theorem cenR_eq (g : Fin 32) (n : Fin 32768) (a : Fin 64) (h : ∀ n, X n (σ (grp g a)) = (r n (σ (grp g a)) : EReal)) :
    cenR (shufE X σ) g n a = ((r n (σ (grp g a)) - meanE r (σ (grp g a)) : ℝ) : EReal) := by
  rw [cenR_mean, meanF_eq X r _ h, h, ← EReal.coe_sub]

/-- The covariance of two features that hold real numbers. -/
theorem covR_eq (g : Fin 32) (a b : Fin 64) (ha : ∀ n, X n (σ (grp g a)) = (r n (σ (grp g a)) : EReal))
    (hb : ∀ n, X n (σ (grp g b)) = (r n (σ (grp g b)) : EReal)) :
    covR (shufE X σ) g a b = ((crossE r (σ (grp g a)) (σ (grp g b)) / 32 : ℝ) : EReal) := by
  unfold covR crossE
  simp only [cenR_eq X r σ g _ a ha, cenR_eq X r σ g _ b hb, ← EReal.coe_mul, coe_sum]
  rw [coe_div _ _ (by norm_num)]

/-- A group's slab. -/
theorem grpOf_div (s : Fin 8) (q : Fin 4) : (⟨(grpOf s q).val / 4, by omega⟩ : Fin 8) = s :=
  Fin.ext (by show (s.val * 4 + q.val) / 4 = s.val; omega)

/-- The reference's variance of a feature that holds an infinity. -/
theorem covR_infinite (g : Fin 32) (a : Fin 64) (n : Fin 32768) (h : Infinite (X n (σ (grp g a)))) :
    Infinite (covR (shufE X σ) g a a) := by
  have hc : Infinite (cenR (shufE X σ) g n a) := by rw [cenR_mean]; exact infinite_sub h _
  unfold covR Ideal.div
  rw [sum_squares (fun n => cenR (shufE X σ) g n a) n hc, if_neg (by exact_mod_cast (by norm_num : (32 : ℝ) ≠ 0)), ← EReal.coe_inv]
  exact infinite_mul (.inl rfl) (by norm_num)

section
variable (hidx : ∀ j, idx j = BitVec.ofNat 32 (σ j).val)
include hidx

/-- The one-hot entry. -/
theorem hotF_eq (i j : Fin 2048) : hotF idx i j = if i = σ j then 1 else 0 := by
  unfold hotF
  rw [hidx]
  by_cases h : i = σ j
  · rw [h, if_pos rfl, if_pos rfl]
  · rw [if_neg h, if_neg fun e => h (Fin.ext (by
      have := congrArg BitVec.toNat e
      rw [BitVec.toNat_ofNat, BitVec.toNat_ofNat] at this; omega))]

/-- A row times the one-hot column. -/
theorem sum_hot (f : Fin 2048 → EReal) (j : Fin 2048) : ∑ k, f k * hotF idx k j = f (σ j) := by
  simp only [hotF_eq σ idx hidx, mul_ite, mul_one, mul_zero, Finset.sum_ite_eq', Finset.mem_univ, if_true]

/-- The one-hot column times a row. -/
theorem hot_sum (f : Fin 2048 → EReal) (j : Fin 2048) : ∑ k, hotF idx k j * f k = f (σ j) := by
  simp only [hotF_eq σ idx hidx, ite_mul, one_mul, zero_mul, Finset.sum_ite_eq', Finset.mem_univ, if_true]

/-- A slab's covariance has the reference's groups' on its diagonal and zero elsewhere, when its features hold real numbers. -/
theorem covF_eq (s : Fin 8) (hX : ∀ a n, X n (σ (col s a)) = (r n (σ (col s a)) : EReal)) :
    covF (gramF X) idx (meanF X) s = diag slabEquiv fun q => covR (shufE X σ) (grpOf s q) := by
  funext a b
  unfold covF gpF
  simp only [sum_hot σ idx hidx, hot_sum σ idx hidx]
  rw [gramF_add X r _ _ (hX a) (hX b), meanF_eq X r _ (hX a), meanF_eq X r _ (hX b), ← EReal.coe_mul, ← EReal.coe_mul, ← EReal.coe_sub,
    cross_eq]
  unfold diag
  by_cases h : a.val / 64 = b.val / 64
  · have h' : (slabEquiv a).1 = (slabEquiv b).1 := Fin.ext h
    have ha := hX a
    have hb := hX b
    rw [col_eq s a] at ha
    rw [col_eq s b, ← h'] at hb
    rw [if_pos h, if_pos h']
    dsimp only
    rw [covR_eq X r σ _ _ _ ha hb, mul_one, ← EReal.coe_mul, col_eq s a, col_eq s b, ← h']
    congr 1
    ring
  · have h' : ¬ (slabEquiv a).1 = (slabEquiv b).1 := fun e => h (congrArg Fin.val e)
    rw [if_neg h, if_neg h', mul_zero, zero_mul]

/-- A slab's inverse root has the reference's groups' on its diagonal and zero elsewhere, when its covariance has. -/
theorem rootF_of_cov (s : Fin 8) (hcov : covF (gramF X) idx (meanF X) s = diag slabEquiv fun q => covR (shufE X σ) (grpOf s q)) :
    rootF (gramF X) idx (meanF X) s = diag slabEquiv fun q => rootR (shufE X σ) (grpOf s q) := by
  have hs : scaleOf (covF (gramF X) idx (meanF X) s) = scaleR (shufE X σ) s := by
    rw [hcov]
    unfold scaleOf scaleR
    refine congrArg (max · least) (congrArg (Finset.univ.sup ·) (funext fun a => ?_))
    exact diag_rowAbs slabEquiv _ a
  have hpos : scaleR (shufE X σ) s ≠ 0 := by rw [← hs]; exact (scaleOf_pos _).ne'
  have hdiv : ∀ x : EReal, x * Ideal.div 1 (scaleR (shufE X σ) s) = Ideal.div x (scaleR (shufE X σ) s) := fun x => by
    unfold Ideal.div
    rw [if_neg hpos, if_neg hpos, one_mul]
  have hA : (fun i j => covF (gramF X) idx (meanF X) s i j * Ideal.div 1 (scaleR (shufE X σ) s))
      = diag slabEquiv fun q i j => Ideal.div (covR (shufE X σ) (grpOf s q) i j) (scaleR (shufE X σ) s) := by
    rw [hcov]
    funext i j
    unfold diag
    by_cases h : (slabEquiv i).1 = (slabEquiv j).1
    · rw [if_pos h, if_pos h, hdiv]
    · rw [if_neg h, if_neg h, zero_mul]
  funext a b
  unfold rootF
  rw [hs, hA, diag_steps]
  unfold diag rootR
  simp only [grpOf_div]
  by_cases h : (slabEquiv a).1 = (slabEquiv b).1
  · rw [if_pos h, if_pos h]
  · rw [if_neg h, if_neg h, zero_mul]

/-- The diagonal of a slab's covariance at a feature that holds an infinity. -/
theorem covF_infinite (s : Fin 8) (a : Fin 256) (n : Fin 32768) (h : Infinite (X n (σ (col s a)))) :
    Infinite (covF (gramF X) idx (meanF X) s a a) := by
  have hp : colProd X (σ (col s a)) (σ (col s a)) = ⊤ := sum_squares (fun n => X n (σ (col s a))) n h
  unfold covF gpF
  simp only [sum_hot σ idx hidx, hot_sum σ idx hidx]
  unfold gramF
  rw [if_pos rfl, hp, EReal.top_mul_coe_of_pos (by norm_num), EReal.top_add_top, if_pos trivial, mul_one]
  exact infinite_mul (infinite_sub (.inl rfl) _) (by norm_num)

/-- A slab's inverse root has the reference's groups' on its diagonal and zero elsewhere. -/
theorem rootF_eq (s : Fin 8) : rootF (gramF X) idx (meanF X) s = diag slabEquiv fun q => rootR (shufE X σ) (grpOf s q) := by
  by_cases hinf : ∃ a n, Infinite (X n (σ (col s a)))
  · obtain ⟨a, n, h⟩ := hinf
    have hF : scaleOf (covF (gramF X) idx (meanF X) s) = ⊤ :=
      scale_top _ a (rowAbs_top _ a a (covF_infinite X σ idx hidx s a n h)) _
    have hR : scaleR (shufE X σ) s = ⊤ := by
      refine scale_top (fun i : Fin 256 => rowAbs (covR (shufE X σ) ⟨s.val * 4 + i.val / 64, by omega⟩) ⟨i.val % 64, by omega⟩) a
        (rowAbs_top _ _ ⟨a.val % 64, by omega⟩ ?_) _
      rw [col_eq] at h
      exact covR_infinite X σ _ _ n h
    funext i j
    unfold rootF diag rootR
    simp only [grpOf_div]
    rw [hF, hR, show Ideal.rsqrt (⊤ : EReal) = 0 from rfl]
    simp only [mul_zero, ite_self]
  · have hr : ∀ a n, ∃ t : ℝ, X n (σ (col s a)) = (t : EReal) := fun a n => real_of_not_infinite fun h => hinf ⟨a, n, h⟩
    refine rootF_of_cov X σ idx hidx s (covF_eq X (fun n j => (X n j).toReal) σ idx hidx s fun a n => ?_)
    obtain ⟨t, ht⟩ := hr a n
    rw [ht, EReal.toReal_coe]

end

end Cert.Whiten

end
-- ==== Proof.Equation.lean ====
/-
  The kernel's result is the reference's, at every row and feature, when the feature numbers are a permutation's.
-/
module

public import proofs.«01_k».proof.Proof.SlabMaths

@[expose] public section

set_option maxRecDepth 16384

noncomputable section

namespace Cert.Whiten

open Idealize.ShloMosaic
open Cert.KernelIdeal.Whole (meanF gramF hotF rootF slabF whiteF outF blk lo col col_blk_lo blk_col lo_col)
open Cert.ReferenceIdeal.Whole (cenR rootR outR grp)

/-- A feature's block and its place inside the block. -/
def featEquiv : Fin 2048 ≃ Fin 8 × Fin 256 where
  toFun j := (blk j, lo j)
  invFun p := col p.1 p.2
  left_inv := col_blk_lo
  right_inv p := Prod.ext (blk_col p.1 p.2) (lo_col p.1 p.2)

variable (X : Fin 32768 → Fin 2048 → EReal) (σ : Fin 2048 → Fin 2048) (idx : Fin 2048 → BitVec 32)
variable (hσ : Function.Bijective σ) (hidx : ∀ j, idx j = BitVec.ofNat 32 (σ j).val)
include hσ hidx

/-- The one-hot entry between two places of the shuffled order. -/
theorem hotF_perm (j k : Fin 2048) : hotF idx (σ j) k = if j = k then 1 else 0 := by
  rw [hotF_eq σ idx hidx]
  by_cases h : j = k
  · rw [if_pos h, if_pos (congrArg σ h)]
  · rw [if_neg h, if_neg fun e => h (hσ.1 e)]

/-- The whitening matrix between two places of the shuffled order: the entry of the slab's inverse root where both lie in one slab. -/
theorem whiteF_perm (g : Fin 2048 → Fin 2048 → EReal) (mu : Fin 2048 → EReal) (j k : Fin 2048) :
    whiteF g idx mu (σ j) (σ k) = if blk j = blk k then rootF g idx mu (blk k) (lo j) (lo k) else 0 := by
  unfold whiteF slabF
  simp only [hotF_perm σ idx hσ hidx]
  have hcol : ∀ (i : Fin 2048) (s : Fin 8) (a : Fin 256), i = col s a ↔ s = blk i ∧ a = lo i := fun i s a =>
    ⟨fun h => by subst h; exact ⟨(blk_col s a).symm, (lo_col s a).symm⟩, fun h => by rw [h.1, h.2, col_blk_lo]⟩
  rw [Finset.sum_eq_single (blk k) (fun s _ hs => Finset.sum_eq_zero fun b _ => by
      rw [if_neg fun h => hs ((hcol k s b).mp h).1, mul_zero]) fun h => absurd (Finset.mem_univ _) h]
  rw [Finset.sum_eq_single (lo k) (fun b _ hb => by
      rw [if_neg fun h => hb ((hcol k (blk k) b).mp h).2, mul_zero]) fun h => absurd (Finset.mem_univ _) h]
  rw [if_pos (col_blk_lo k).symm, mul_one]
  by_cases h : blk j = blk k
  · rw [if_pos h, Finset.sum_eq_single (lo j) (fun a _ ha => by
      rw [if_neg fun h' => ha ((hcol j (blk k) a).mp h').2, zero_mul]) fun h => absurd (Finset.mem_univ _) h]
    rw [← h, if_pos (col_blk_lo j).symm, one_mul]
  · rw [if_neg h]
    exact Finset.sum_eq_zero fun a _ => by rw [if_neg fun h' => h ((hcol j (blk k) a).mp h').1.symm, zero_mul]

/-- The kernel's result is the reference's. -/
theorem outF_eq (n : Fin 32768) (k : Fin 2048) :
    outF X idx n (σ k) = outR (shufE X σ) n ⟨k.val / 64, by omega⟩ ⟨k.val % 64, by omega⟩ := by
  have hg : grpOf (blk k) (slabEquiv (lo k)).1 = ⟨k.val / 64, by omega⟩ :=
    Fin.ext (by show k.val / 256 * 4 + k.val % 256 / 64 = k.val / 64; omega)
  have hl : (slabEquiv (lo k)).2 = ⟨k.val % 64, by omega⟩ := Fin.ext (by show k.val % 256 % 64 = k.val % 64; omega)
  unfold outF
  rw [← (Equiv.ofBijective σ hσ).sum_comp]
  simp only [Equiv.ofBijective_apply, whiteF_perm σ idx hσ hidx]
  rw [sum_block featEquiv (blk k) _ fun j hj => by rw [if_neg fun h : blk j = blk k => hj h, mul_zero]]
  have h1 : ∀ a, (featEquiv.symm (blk k, a)) = col (blk k) a := fun a => rfl
  simp only [h1, blk_col, lo_col, if_true]
  rw [rootF_eq X σ idx hidx (blk k)]
  rw [sum_block slabEquiv (slabEquiv (lo k)).1 _ fun a ha => by
    unfold diag; rw [if_neg fun h => ha h, mul_zero]]
  unfold outR diag
  refine Finset.sum_congr rfl fun d _ => ?_
  rw [cenR_mean, if_pos (by rw [Equiv.apply_symm_apply]), col_eq, Equiv.apply_symm_apply]
  dsimp only
  rw [hg, hl]

end Cert.Whiten

end
-- ==== Proof.PreValue.lean ====
/-
  What the precondition says: the feature numbers are those of a permutation.
-/
module

public import proofs.«01_k».proof.Pre_permutation
public import Idealize.ShloMosaic.Lib.Pointwise
public import Idealize.ShloMosaic.Lib.ReduceAll

@[expose] public section

set_option maxRecDepth 16384

noncomputable section

namespace Cert.Pre_permutation

open Idealize.ShloMosaic Idealize.ShloMosaic.Tactic

/-- The precondition's shape facts. -/
theorem facts : Facts where
  h_S_ := by decide
  bcast_S_S2048 := by decide
  reducesTo_S2048_S_d0 := by decide
  bcast_S2048_S2048x1_0 := by decide
  bcast_S2048_S1x2048_1 := by decide
  bcast_S2048x1_S2048x2048_0_1 := by decide
  bcast_S1x2048_S2048x2048_0_1 := by decide
  reducesTo_S2048x2048_S_d0_1 := by decide

/-- A conjunction of two bits that is 1 has both at 1. -/
theorem and_one (a b : BitVec 1) (h : IntOp.andi a b = 1#1) : a = 1#1 ∧ b = 1#1 := by
  revert a b; decide

/-- A disjunction of two bits that is 1 has one of them at 1. -/
theorem or_one (a b : BitVec 1) (h : IntOp.ori a b = 1#1) : a = 1#1 ∨ b = 1#1 := by
  revert a b; decide

/-- The bit of a truth value that is 1 says that it is true. -/
theorem ofBool_one (p : Bool) (h : BitVec.ofBool p = 1#1) : p = true := by
  revert p; decide

instance : Subsingleton S_.Idx := ⟨fun a b => funext fun t => t.elim0⟩

variable [Facts]

/-- Under the precondition the feature numbers are a permutation's. -/
theorem of_fn (x : FVec Ideal S32768x2048 .f32) (v : IVec S2048 32) (h : fn (F := Ideal) x v = fun _ => 1#1) :
    ∃ σ : Fin 2048 → Fin 2048, Function.Bijective σ ∧ ∀ j, v (ix1 j) = BitVec.ofNat 32 (σ j).val := by
  have h0 := congrFun h ix0
  unfold fn at h0
  obtain ⟨hr, hd⟩ := and_one _ _ h0
  have hr' := fun i => Host.reduce_andi_all _ _ _ _ _ hr i
  have hd' := fun i => Host.reduce_andi_all _ _ _ _ _ hd i
  clear hr hd h0 h
  have hlt : ∀ j : Fin 2048, (v (ix1 j)).toNat < 2048 := fun j => by
    obtain ⟨a, b⟩ := and_one _ _ (hr' (ix1 j))
    have a' : (0#32).sle (v (ix1 j)) = true := ofBool_one _ a
    have b' : (v (ix1 j)).slt 2048#32 = true := ofBool_one _ b
    generalize v (ix1 j) = w at a' b'
    simp only [BitVec.sle, BitVec.slt, decide_eq_true_eq] at a' b'
    rw [show (0#32).toInt = 0 from by decide] at a'
    rw [show (2048#32).toInt = 2048 from by decide] at b'
    have hw := BitVec.toInt_eq_toNat_cond w
    have hl := w.isLt
    split at hw <;> omega
  refine ⟨fun j => ⟨(v (ix1 j)).toNat, hlt j⟩, ?_, fun j => ?_⟩
  · refine Finite.injective_iff_bijective.mp fun i j e => ?_
    have e' : v (ix1 i) = v (ix1 j) := BitVec.eq_of_toNat_eq (Fin.mk.inj e)
    rcases or_one _ _ (hd' (ix2 i j)) with q | q
    · exfalso
      have q' := ofBool_one _ q
      pointwise at q'
      simp [e'] at q'
    · have q' := ofBool_one _ q
      pointwise at q'
      have q2 := congrArg BitVec.toNat (eq_of_beq q')
      rw [BitVec.toNat_ofNat, BitVec.toNat_ofNat] at q2
      exact Fin.ext (by omega)
  · show v (ix1 j) = BitVec.ofNat 32 (v (ix1 j)).toNat
    rw [BitVec.ofNat_toNat, BitVec.setWidth_eq]

end Cert.Pre_permutation

end
-- ==== Proof.Algebraic.lean ====
/-
  The reference's run, and the value claim: from memories that agree on the arguments, under the precondition, both programs end with the
  same result.
-/
module

public import proofs.«01_k».proof.Proof.Equation
public import proofs.«01_k».proof.Proof.PreValue
public import Idealize.ShloMosaic.Lib.Quiescent

@[expose] public section

set_option maxRecDepth 16384

noncomputable section

namespace Cert.ReferenceIdeal.Whole

open Idealize.ShloMosaic Idealize.ShloMosaic.TcCoe Idealize.SL.Sem
open Cert.ReferenceIdeal.Gen Cert.ReferenceIdeal.Value Idealize.ShloMosaic.StableHlo

variable (m : (ℓ : Loc nD τ sig) → Buf (Elt Ideal) ℓ) (ρ : Dev nD → PrngReg)

/-- Every execution of the reference ends with `result` of its arguments, the arguments unchanged. -/
theorem run_result : θ_run defs (onTc (τ := τ) (main (F := Ideal))) ⟨m, fun _ => 0, ρ⟩ (fun r => ∀ c : Dev nD,
      r.2.mem ((c.tc : Thread nD τ).loc main_v141) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2⟩) (run m ρ)

/-- Every execution of the reference ends with its arguments unchanged and with every counter at zero: it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run_result m ρ)

end Cert.ReferenceIdeal.Whole

namespace Cert.Whiten

open Idealize.ShloMosaic Idealize.ShloMosaic.TcCoe
open Cert.KernelIdeal.Whole (outF)

/-- Under the precondition the reference's result is the kernel's, as arrays. -/
theorem result_eq (x : FVec Ideal Cert.KernelIdeal.S32768x2048 .f32) (v : IVec Cert.KernelIdeal.S2048 32)
    (V : Valuation Cert.ReferenceIdeal.τ Cert.ReferenceIdeal.sig (Elt Ideal))
    (hx : V (Proc.devRef .tc Cert.ReferenceIdeal.main_arg0) = x) (hv : V (Proc.devRef .tc Cert.ReferenceIdeal.main_arg1) = v)
    [Cert.Pre_permutation.Facts] (hpre : Cert.Pre_permutation.fn (F := Ideal) x v = fun _ => 1#1) :
    (Cert.ReferenceIdeal.Whole.result V : Cert.KernelIdeal.S32768x2048.Idx → EReal)
      = fun q : Cert.KernelIdeal.S32768x2048.Idx => outF (fun n j => x (ix2 n j)) (fun j => v (ix1 j)) (q 0) (q 1) := by
  obtain ⟨σ, hσ, hidx⟩ := Cert.Pre_permutation.of_fn x v hpre
  have hshuf : Cert.ReferenceIdeal.Whole.shuf V σ = shufE (fun n j => x (ix2 n j)) σ :=
    funext fun n => funext fun g => funext fun a => by
      unfold Cert.ReferenceIdeal.Whole.shuf shufE
      rw [hx]
  have key : ∀ (n : Fin 32768) (j : Fin 2048),
      (Cert.ReferenceIdeal.Whole.result V (ix2 n j) : EReal) = outF (fun n j => x (ix2 n j)) (fun j => v (ix1 j)) n j := fun n j => by
    obtain ⟨k, rfl⟩ := hσ.2 j
    rw [outF_eq _ σ _ hσ hidx n k, ← hshuf]
    exact Cert.ReferenceIdeal.Whole.result_apply V σ hσ (fun j => by rw [hv]; exact hidx j) n k
  funext q
  refine Eq.trans ?_ (key (q 0) (q 1))
  exact congrArg (Cert.ReferenceIdeal.Whole.result V) (ix2_eta q).symm

end Cert.Whiten

end
-- ==== Proof.lean ====
module

public import proofs.«01_k».proof.Defs
public import proofs.«01_k».proof.Proof.Gen.Kernel.Frame
public import proofs.«01_k».proof.Proof.Algebraic

@[expose] public section

set_option maxRecDepth 16384

noncomputable section

namespace Cert.Proof

open Idealize.ShloMosaic Idealize.SL.Sem

/-- The value claim: both programs end with the kernel's plain value. -/
theorem algebraic : Cert.algebraic_KernelIdeal_ReferenceIdeal_pre_permutation (hKernelIdeal := Cert.KernelIdeal.Gen.facts)
    (hReferenceIdeal := Cert.ReferenceIdeal.Gen.facts) (hPre_permutation := Cert.Pre_permutation.facts) := by
  intro m g m' g' hpre hagree
  refine ⟨fun c => Cert.KernelIdeal.Gen.W4 m g c (Proc.devRef .tc Cert.KernelIdeal.main_v3), Cert.KernelIdeal.Whole.run_result m g, ?_⟩
  refine (θ_run _ _ _).mono (fun r h c => ⟨(h c).1.trans ?_, (h c).2⟩) (Cert.ReferenceIdeal.Whole.run_result m' g')
  refine Eq.trans ?_ (Cert.KernelIdeal.Whole.kernel_value m g c).symm
  haveI := Cert.Pre_permutation.facts
  exact Cert.Whiten.result_eq _ _ _ (hagree c).1 (hagree c).2 (hpre c)

theorem claim : Cert.Claim :=
  ⟨Cert.Kernel.Gen.facts, Cert.KernelIdeal.Gen.facts, Cert.ReferenceIdeal.Gen.facts, Cert.Pre_permutation.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Whole.frame m ρ, fun m ρ _ => Cert.ReferenceIdeal.Whole.frame m ρ, trivial, algebraic⟩

end Cert.Proof

end
